-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)) (v5 : (c : Dev Cert.Kernel2Ideal.nD) → Buf (Elt Ideal) ((c.tc : Thread Cert.Kernel2Ideal.nD Cert.Kernel2Ideal.τ).loc Cert.Kernel2Ideal.main_v26_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_v26_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v92) = v3 c
          ∧ r.2.mem ((c.tc : Thread Cert.Reference2Ideal.nD Cert.Reference2Ideal.τ).loc Cert.Reference2Ideal.main_v95) = v4 c
          ∧ r.2.mem ((c.tc : Thread Cert.Reference2Ideal.nD Cert.Reference2Ideal.τ).loc Cert.Reference2Ideal.main_v101) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_exist : Cert.Pre_experts_exist.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal)
    ∧ quiescent_ReferenceIdeal_pre_experts_exist (hReferenceIdeal := hReferenceIdeal) (hPre_experts_exist := hPre_experts_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_experts_exist := hPre_experts_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_exist.lean ====
abbrev S16512x1024 : Shape := ⟨2, ![16512, 1024]⟩
abbrev S74240 : Shape := ⟨1, ![74240]⟩
abbrev S290 : Shape := ⟨1, ![290]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S290 : S_.BroadcastsInDim S290 (![] : Fin 0 → Fin S290.rank)

variable [Facts]

def fn {F : FTy → Type} [FloatOps F] (main_arg0 : FVec F S16512x1024 .f32) (main_arg1 : IVec S74240 32) (main_arg2 : IVec S290 32) (main_arg3 : IVec S1 32) (main_arg4 : FVec F S32x1024x2048 .f32) (main_arg5 : FVec F S32x2048 .f32) (main_arg6 : FVec F S32x1024x1024 .f32) (main_arg7 : FVec F S32x1024 .f32) : IVec S290 1 :=
  let main_c : IVec S_ 32 := constantI S_ 32 0#32
  let main_v0 : IVec S290 32 := broadcastInDim S290 ![] bcast_S_S290 main_c
  let main_v1 : IVec S290 1 := cmpi .sge main_arg2 main_v0
  let main_c_0 : IVec S_ 32 := constantI S_ 32 32#32
  let main_v2 : IVec S290 32 := broadcastInDim S290 ![] bcast_S_S290 main_c_0
  let main_v3 : IVec S290 1 := cmpi .slt main_arg2 main_v2
  let main_v4 : IVec S290 1 := andi main_v1 main_v3
  main_v4
-- ==== Kernel.lean ====
abbrev S16512x1024 : Shape := ⟨2, ![16512, 1024]⟩
abbrev S74240 : Shape := ⟨1, ![74240]⟩
abbrev S290 : Shape := ⟨1, ![290]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S74240x1 : Shape := ⟨2, ![74240, 1]⟩
abbrev S74240x1024 : Shape := ⟨2, ![74240, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 18
  | .vmem => 14
  | .smem => 2
  | _ => 0

abbrev bufTy : (tb : Table) → Fin (tcTables nBuf tb) → BufTy
  | .hbm, ⟨0, _⟩ => ⟨S16512x1024, .f32⟩
  | .hbm, ⟨1, _⟩ => ⟨S74240, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S74240, .i32⟩
  | .hbm, ⟨8, _⟩ => ⟨S74240, .i1⟩
  | .hbm, ⟨9, _⟩ => ⟨S_, .i32⟩
  | .hbm, ⟨10, _⟩ => ⟨S74240, .i32⟩
  | .hbm, ⟨11, _⟩ => ⟨S74240, .i32⟩
  | .hbm, ⟨12, _⟩ => ⟨S74240, .i32⟩
  | .hbm, ⟨13, _⟩ => ⟨S74240x1, .i32⟩
  | .hbm, ⟨14, _⟩ => ⟨S74240x1024, .f32⟩
  | .hbm, ⟨15, _⟩ => ⟨S32x1x2048, .f32⟩
  | .hbm, ⟨16, _⟩ => ⟨S32x1x1024, .f32⟩
  | .hbm, ⟨17, _⟩ => ⟨S74240x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S290, .i32⟩
  | .local _ .smem, ⟨1, _⟩ => ⟨S1, .i32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16512x1024 : Shape := ⟨2, ![16512, 1024]⟩
abbrev S74240 : Shape := ⟨1, ![74240]⟩
abbrev S290 : Shape := ⟨1, ![290]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S74240x1 : Shape := ⟨2, ![74240, 1]⟩
abbrev S74240x1024 : Shape := ⟨2, ![74240, 1024]⟩
abbrev S290x256x1024 : Shape := ⟨3, ![290, 256, 1024]⟩
abbrev S290x1 : Shape := ⟨2, ![290, 1]⟩
abbrev S290x1024x2048 : Shape := ⟨3, ![290, 1024, 2048]⟩
abbrev S290x256x2048 : Shape := ⟨3, ![290, 256, 2048]⟩
abbrev S290x2048 : Shape := ⟨2, ![290, 2048]⟩
abbrev S290x1x2048 : Shape := ⟨3, ![290, 1, 2048]⟩
abbrev S290x1024x1024 : Shape := ⟨3, ![290, 1024, 1024]⟩
abbrev S290x1024 : Shape := ⟨2, ![290, 1024]⟩
abbrev S290x1x1024 : Shape := ⟨3, ![290, 1, 1024]⟩
abbrev S290x1x1 : Shape := ⟨3, ![290, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S74240, .i32⟩
  | .hbm, ⟨2, _⟩ => ⟨S290, .i32⟩
  | .hbm, ⟨3, _⟩ => ⟨S1, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S_, .i32⟩
  | .hbm, ⟨9, _⟩ => ⟨S74240, .i32⟩
  | .hbm, ⟨10, _⟩ => ⟨S74240, .i1⟩
  | .hbm, ⟨11, _⟩ => ⟨S_, .i32⟩
  | .hbm, ⟨12, _⟩ => ⟨S74240, .i32⟩
  | .hbm, ⟨13, _⟩ => ⟨S74240, .i32⟩
  | .hbm, ⟨14, _⟩ => ⟨S74240, .i32⟩
  | .hbm, ⟨15, _⟩ => ⟨S74240x1, .i32⟩
  | .hbm, ⟨16, _⟩ => ⟨S74240x1024, .f32⟩
  | .hbm, ⟨17, _⟩ => ⟨S290x256x1024, .f32⟩
  | .hbm, ⟨18, _⟩ => ⟨S_, .i32⟩
  | .hbm, ⟨19, _⟩ => ⟨S290, .i32⟩
  | .hbm, ⟨20, _⟩ => ⟨S290, .i1⟩
  | .hbm, ⟨21, _⟩ => ⟨S_, .i32⟩
  | .hbm, ⟨22, _⟩ => ⟨S290, .i32⟩
  | .hbm, ⟨23, _⟩ => ⟨S290, .i32⟩
  | .hbm, ⟨24, _⟩ => ⟨S290, .i32⟩
  | .hbm, ⟨25, _⟩ => ⟨S290x1, .i32⟩
  | .hbm, ⟨26, _⟩ => ⟨S290x1024x2048, .f32⟩
  | .hbm, ⟨27, _⟩ => ⟨S290x256x2048, .f32⟩
  | .hbm, ⟨28, _⟩ => ⟨S_, .i32⟩
  | .hbm, ⟨29, _⟩ => ⟨S290, .i32⟩
  | .hbm, ⟨30, _⟩ => ⟨S290, .i1⟩
  | .hbm, ⟨31, _⟩ => ⟨S_, .i32⟩
  | .hbm, ⟨32, _⟩ => ⟨S290, .i32⟩
  | .hbm, ⟨33, _⟩ => ⟨S290, .i32⟩
  | .hbm, ⟨34, _⟩ => ⟨S290, .i32⟩
  | .hbm, ⟨35, _⟩ => ⟨S290x1, .i32⟩
  | .hbm, ⟨36, _⟩ => ⟨S290x2048, .f32⟩
  | .hbm, ⟨37, _⟩ => ⟨S290x1x2048, .f32⟩
  | .hbm, ⟨38, _⟩ => ⟨S290x256x2048, .f32⟩
  | .hbm, ⟨39, _⟩ => ⟨S290x256x2048, .f32⟩
  | .hbm, ⟨40, _⟩ => ⟨S290x256x1024, .f32⟩
  | .hbm, ⟨41, _⟩ => ⟨S290x256x1024, .f32⟩
  | .hbm, ⟨42, _⟩ => ⟨S_, .f32⟩
  | .hbm, ⟨43, _⟩ => ⟨S290x256x1024, .f32⟩
  | .hbm, ⟨44, _⟩ => ⟨S290x256x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S290x256x1024, .f32⟩
  | .hbm, ⟨49, _⟩ => ⟨S290x256x1024, .f32⟩
  | .hbm, ⟨50, _⟩ => ⟨S_, .f32⟩
  | .hbm, ⟨51, _⟩ => ⟨S290x256x1024, .f32⟩
  | .hbm, ⟨52, _⟩ => ⟨S290x256x1024, .f32⟩
  | .hbm, ⟨53, _⟩ => ⟨S_, .f32⟩
  | .hbm, ⟨54, _⟩ => ⟨S290x256x1024, .f32⟩
  | .hbm, ⟨55, _⟩ => ⟨S290x256x1024, .f32⟩
  | .hbm, ⟨56, _⟩ => ⟨S290x256x1024, .f32⟩
  | .hbm, ⟨57, _⟩ => ⟨S290x256x1024, .f32⟩
  | .hbm, ⟨58, _⟩ => ⟨S_, .f32⟩
  | .hbm, ⟨59, _⟩ => ⟨S290x256x1024, .f32⟩
  | .hbm, ⟨60, _⟩ => ⟨S290x256x1024, .f32⟩
  | .hbm, ⟨61, _⟩ => ⟨S_, .f32⟩
  | .hbm, ⟨62, _⟩ => ⟨S290x256x1024, .f32⟩
  | .hbm, ⟨63, _⟩ => ⟨S290x256x1024, .f32⟩
  | .hbm, ⟨64, _⟩ => ⟨S290x256x1024, .f32⟩
  | .hbm, ⟨65, _⟩ => ⟨S_, .f32⟩
  | .hbm, ⟨66, _⟩ => ⟨S290x256x1024, .f32⟩
  | .hbm, ⟨67, _⟩ => ⟨S290x256x1024, .f32⟩
  | .hbm, ⟨68, _⟩ => ⟨S290x256x1024, .f32⟩
  | .hbm, ⟨69, _⟩ => ⟨S_, .i32⟩
  | .hbm, ⟨70, _⟩ => ⟨S290, .i32⟩
  | .hbm, ⟨71, _⟩ => ⟨S290, .i1⟩
  | .hbm, ⟨72, _⟩ => ⟨S_, .i32⟩
  | .hbm, ⟨73, _⟩ => ⟨S290, .i32⟩
  | .hbm, ⟨74, _⟩ => ⟨S290, .i32⟩
  | .hbm, ⟨75, _⟩ => ⟨S290, .i32⟩
  | .hbm, ⟨76, _⟩ => ⟨S290x1, .i32⟩
  | .hbm, ⟨77, _⟩ => ⟨S290x1024x1024, .f32⟩
  | .hbm, ⟨78, _⟩ => ⟨S290x256x1024, .f32⟩
  | .hbm, ⟨79, _⟩ => ⟨S_, .i32⟩
  | .hbm, ⟨80, _⟩ => ⟨S290, .i32⟩
  | .hbm, ⟨81, _⟩ => ⟨S290, .i1⟩
  | .hbm, ⟨82, _⟩ => ⟨S_, .i32⟩
  | .hbm, ⟨83, _⟩ => ⟨S290, .i32⟩
  | .hbm, ⟨84, _⟩ => ⟨S290, .i32⟩
  | .hbm, ⟨85, _⟩ => ⟨S290, .i32⟩
  | .hbm, ⟨86, _⟩ => ⟨S290x1, .i32⟩
  | .hbm, ⟨87, _⟩ => ⟨S290x1024, .f32⟩
  | .hbm, ⟨88, _⟩ => ⟨S290x1x1024, .f32⟩
  | .hbm, ⟨89, _⟩ => ⟨S290x256x1024, .f32⟩
  | .hbm, ⟨90, _⟩ => ⟨S290x256x1024, .f32⟩
  | .hbm, ⟨91, _⟩ => ⟨S290, .i32⟩
  | .hbm, ⟨92, _⟩ => ⟨S290x1x1, .i32⟩
  | .hbm, ⟨93, _⟩ => ⟨S_, .i32⟩
  | .hbm, ⟨94, _⟩ => ⟨S290x1x1, .i32⟩
  | .hbm, ⟨95, _⟩ => ⟨S290x1x1, .i1⟩
  | .hbm, ⟨96, _⟩ => ⟨S_, .f32⟩
  | .hbm, ⟨97, _⟩ => ⟨S_, .f32⟩
  | .hbm, ⟨98, _⟩ => ⟨S290x256x1024, .i1⟩
  | .hbm, ⟨99, _⟩ => ⟨S290x256x1024, .f32⟩
  | .hbm, ⟨100, _⟩ => ⟨S290x256x1024, .f32⟩
  | .hbm, ⟨101, _⟩ => ⟨S74240x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x6144 : Shape := ⟨2, ![1024, 6144]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S16384x512 : Shape := ⟨2, ![16384, 512]⟩
abbrev S16384x3072 : Shape := ⟨2, ![16384, 3072]⟩
abbrev S640x16384 : Shape := ⟨2, ![640, 16384]⟩
abbrev S64x1x512 : Shape := ⟨3, ![64, 1, 512]⟩
abbrev S512x1024 : Shape := ⟨2, ![512, 1024]⟩
abbrev S512x128 : Shape := ⟨2, ![512, 128]⟩
abbrev S512x512 : Shape := ⟨2, ![512, 512]⟩
abbrev S512x3072 : Shape := ⟨2, ![512, 3072]⟩
abbrev S640x512 : Shape := ⟨2, ![640, 512]⟩
abbrev S2x1x512 : Shape := ⟨3, ![2, 1, 512]⟩
abbrev S512 : Shape := ⟨1, ![512]⟩
abbrev S512x1 : Shape := ⟨2, ![512, 1]⟩
abbrev S1024x512 : Shape := ⟨2, ![1024, 512]⟩
abbrev S256x512 : Shape := ⟨2, ![256, 512]⟩
abbrev S1x512 : Shape := ⟨2, ![1, 512]⟩
abbrev S1x1x512 : Shape := ⟨3, ![1, 1, 512]⟩
abbrev S16x512 : Shape := ⟨2, ![16, 512]⟩
abbrev S64x512 : Shape := ⟨2, ![64, 512]⟩

abbrev nBuf : Space → Nat
  | .hbm => 40
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S16384, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x64, .f32⟩
  | .hbm, ⟨21, _⟩ => ⟨S1x16384x1x64, .f32⟩
  | .hbm, ⟨22, _⟩ => ⟨S1x16384x2x64, .f32⟩
  | .hbm, ⟨23, _⟩ => ⟨S16384x128, .f32⟩
  | .hbm, ⟨24, _⟩ => ⟨S16384x32, .f32⟩
  | .hbm, ⟨25, _⟩ => ⟨S16384x64, .f32⟩
  | .hbm, ⟨26, _⟩ => ⟨S1x16384x1x64, .f32⟩
  | .hbm, ⟨27, _⟩ => ⟨S1x16384x2x64, .f32⟩
  | .hbm, ⟨28, _⟩ => ⟨S16384x128, .f32⟩
  | .hbm, ⟨29, _⟩ => ⟨S1024x6144, .bf16⟩
  | .hbm, ⟨30, _⟩ => ⟨S1x1024, .f32⟩
  | .hbm, ⟨31, _⟩ => ⟨S16384x512, .bf16⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .bf16⟩
  | .hbm, ⟨36, _⟩ => ⟨S16384x3072, .f32⟩
  | .hbm, ⟨37, _⟩ => ⟨S16384x1024, .bf16⟩
  | .hbm, ⟨38, _⟩ => ⟨S640x16384, .bf16⟩
  | .hbm, ⟨39, _⟩ => ⟨S64x1x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x3072, .f32⟩
  | .local _ .vmem, ⟨19, _⟩ => ⟨S512x3072, .f32⟩
  | .local _ .vmem, ⟨20, _⟩ => ⟨S512x1024, .bf16⟩
  | .local _ .vmem, ⟨21, _⟩ => ⟨S512x1024, .bf16⟩
  | .local _ .vmem, ⟨22, _⟩ => ⟨S640x512, .bf16⟩
  | .local _ .vmem, ⟨23, _⟩ => ⟨S640x512, .bf16⟩
  | .local _ .vmem, ⟨24, _⟩ => ⟨S2x1x512, .f32⟩
  | .local _ .vmem, ⟨25, _⟩ => ⟨S2x1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev main_v26_4 : Ref sig .tc := ⟨.hbm, 35, rfl⟩
abbrev main_v26_5 : Ref sig .tc := ⟨.hbm, 36, rfl⟩
abbrev main_v26_6 : Ref sig .tc := ⟨.hbm, 37, rfl⟩
abbrev main_v26_7 : Ref sig .tc := ⟨.hbm, 38, rfl⟩
abbrev main_v26_8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S1024 : Shape := ⟨1, ![1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S16384x512 : Shape := ⟨2, ![16384, 512]⟩
abbrev S16384x3072 : Shape := ⟨2, ![16384, 3072]⟩
abbrev S16384x8x64 : Shape := ⟨3, ![16384, 8, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x8x32 : Shape := ⟨3, ![16384, 8, 32]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6144, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x1024, .f32⟩
  | .hbm, ⟨24, _⟩ => ⟨S16384x512, .f32⟩
  | .hbm, ⟨25, _⟩ => ⟨S16384x3072, .f32⟩
  | .hbm, ⟨26, _⟩ => ⟨S16384, .i32⟩
  | .hbm, ⟨27, _⟩ => ⟨S16384x8x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S16384, .f32⟩
  | .hbm, ⟨37, _⟩ => ⟨S16384x1, .f32⟩
  | .hbm, ⟨38, _⟩ => ⟨S1x32, .f32⟩
  | .hbm, ⟨39, _⟩ => ⟨S16384x32, .f32⟩
  | .hbm, ⟨40, _⟩ => ⟨S16384x32, .f32⟩
  | .hbm, ⟨41, _⟩ => ⟨S16384x32, .f32⟩
  | .hbm, ⟨42, _⟩ => ⟨S16384x32, .f32⟩
  | .hbm, ⟨43, _⟩ => ⟨S16384x1x32, .f32⟩
  | .hbm, ⟨44, _⟩ => ⟨S16384x32, .f32⟩
  | .hbm, ⟨45, _⟩ => ⟨S16384x1x32, .f32⟩
  | .hbm, ⟨46, _⟩ => ⟨S16384x8x32, .f32⟩
  | .hbm, ⟨47, _⟩ => ⟨S16384x8x32, .f32⟩
  | .hbm, ⟨48, _⟩ => ⟨S16384x8x32, .f32⟩
  | .hbm, ⟨49, _⟩ => ⟨S16384x8x32, .f32⟩
  | .hbm, ⟨50, _⟩ => ⟨S16384x8x32, .f32⟩
  | .hbm, ⟨51, _⟩ => ⟨S16384x8x32, .f32⟩
  | .hbm, ⟨52, _⟩ => ⟨S16384x8x32, .f32⟩
  | .hbm, ⟨53, _⟩ => ⟨S16384x8x32, .f32⟩
  | .hbm, ⟨54, _⟩ => ⟨S16384x8x32, .f32⟩
  | .hbm, ⟨55, _⟩ => ⟨S16384x8x32, .f32⟩
  | .hbm, ⟨56, _⟩ => ⟨S16384x8x32, .f32⟩
  | .hbm, ⟨57, _⟩ => ⟨S16384x8x32, .f32⟩
  | .hbm, ⟨58, _⟩ => ⟨S16384x8x64, .f32⟩
  | .hbm, ⟨59, _⟩ => ⟨S16384x512, .f32⟩
  | .hbm, ⟨60, _⟩ => ⟨S16384x8x64, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S16384, .f32⟩
  | .hbm, ⟨70, _⟩ => ⟨S16384x1, .f32⟩
  | .hbm, ⟨71, _⟩ => ⟨S1x32, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S16384x32, .f32⟩
  | .hbm, ⟨76, _⟩ => ⟨S16384x1x32, .f32⟩
  | .hbm, ⟨77, _⟩ => ⟨S16384x32, .f32⟩
  | .hbm, ⟨78, _⟩ => ⟨S16384x1x32, .f32⟩
  | .hbm, ⟨79, _⟩ => ⟨S16384x8x32, .f32⟩
  | .hbm, ⟨80, _⟩ => ⟨S16384x8x32, .f32⟩
  | .hbm, ⟨81, _⟩ => ⟨S16384x8x32, .f32⟩
  | .hbm, ⟨82, _⟩ => ⟨S16384x8x32, .f32⟩
  | .hbm, ⟨83, _⟩ => ⟨S16384x8x32, .f32⟩
  | .hbm, ⟨84, _⟩ => ⟨S16384x8x32, .f32⟩
  | .hbm, ⟨85, _⟩ => ⟨S16384x8x32, .f32⟩
  | .hbm, ⟨86, _⟩ => ⟨S16384x8x32, .f32⟩
  | .hbm, ⟨87, _⟩ => ⟨S16384x8x32, .f32⟩
  | .hbm, ⟨88, _⟩ => ⟨S16384x8x32, .f32⟩
  | .hbm, ⟨89, _⟩ => ⟨S16384x8x32, .f32⟩
  | .hbm, ⟨90, _⟩ => ⟨S16384x8x32, .f32⟩
  | .hbm, ⟨91, _⟩ => ⟨S16384x8x64, .f32⟩
  | .hbm, ⟨92, _⟩ => ⟨S16384x512, .f32⟩
  | .hbm, ⟨93, _⟩ => ⟨S16384x512, .f32⟩
  | .hbm, ⟨94, _⟩ => ⟨S16384x512, .f32⟩
  | .hbm, ⟨95, _⟩ => ⟨S16384x512, .bf16⟩
  | .hbm, ⟨96, _⟩ => ⟨S16384x512, .f32⟩
  | .hbm, ⟨97, _⟩ => ⟨S16384x512, .f32⟩
  | .hbm, ⟨98, _⟩ => ⟨S_, .f32⟩
  | .hbm, ⟨99, _⟩ => ⟨S16384x512, .f32⟩
  | .hbm, ⟨100, _⟩ => ⟨S16384x512, .f32⟩
  | .hbm, ⟨101, _⟩ => ⟨S_, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S_, .f32⟩
  | .hbm, ⟨106, _⟩ => ⟨S16384x512, .f32⟩
  | .hbm, ⟨107, _⟩ => ⟨S16384x512, .f32⟩
  | .hbm, ⟨108, _⟩ => ⟨S16384x512, .bf16⟩
  | .hbm, ⟨109, _⟩ => ⟨S16384x3072, .f32⟩
  | .hbm, ⟨110, _⟩ => ⟨S16384x3072, .f32⟩
  | .hbm, ⟨111, _⟩ => ⟨S_, .f32⟩
  | .hbm, ⟨112, _⟩ => ⟨S16384x3072, .f32⟩
  | .hbm, ⟨113, _⟩ => ⟨S16384x3072, .f32⟩
  | .hbm, ⟨114, _⟩ => ⟨S_, .f32⟩
  | .hbm, ⟨115, _⟩ => ⟨S16384x3072, .f32⟩
  | .hbm, ⟨116, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_6 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_v101 : Ref sig .tc := ⟨.hbm, 116, rfl⟩

abbrev nD : Nat := 1
abbrev τ : Topo := Topo.v7x

variable {F : FTy → Type} [FloatOps F]
-- ==== Kernel3.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference3Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S16512x1024 : Shape := ⟨2, ![16512, 1024]⟩
abbrev S74240x1024 : Shape := ⟨2, ![74240, 1024]⟩
abbrev S16512x4 : Shape := ⟨2, ![16512, 4]⟩
abbrev S16512x128 : Shape := ⟨2, ![16512, 128]⟩
abbrev S1024 : Shape := ⟨1, ![1024]⟩
abbrev S4x16512 : Shape := ⟨2, ![4, 16512]⟩
abbrev S_ : Shape := ⟨0, ![]⟩
abbrev S4x16512x1 : Shape := ⟨3, ![4, 16512, 1]⟩
abbrev S4x16512x1024 : Shape := ⟨3, ![4, 16512, 1024]⟩
abbrev S1x1024 : Shape := ⟨2, ![1, 1024]⟩
abbrev S384x1024 : Shape := ⟨2, ![384, 1024]⟩
abbrev S4x384x1024 : Shape := ⟨3, ![4, 384, 1024]⟩
abbrev S384x128 : Shape := ⟨2, ![384, 128]⟩
abbrev S384x1 : Shape := ⟨2, ![384, 1]⟩
abbrev S1x384x1024 : Shape := ⟨3, ![1, 384, 1024]⟩
abbrev S384 : Shape := ⟨1, ![384]⟩

abbrev nBuf : Space → Nat
  | .hbm => 17
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S74240x1024, .f32⟩
  | .hbm, ⟨2, _⟩ => ⟨S16512x4, .i32⟩
  | .hbm, ⟨3, _⟩ => ⟨S16512x128, .f32⟩
  | .hbm, ⟨4, _⟩ => ⟨S1024, .f32⟩
  | .hbm, ⟨5, _⟩ => ⟨S4x16512, .i32⟩
  | .hbm, ⟨6, _⟩ => ⟨S_, .i32⟩
  | .hbm, ⟨7, _⟩ => ⟨S4x16512, .i32⟩
  | .hbm, ⟨8, _⟩ => ⟨S4x16512, .i1⟩
  | .hbm, ⟨9, _⟩ => ⟨S_, .i32⟩
  | .hbm, ⟨10, _⟩ => ⟨S4x16512, .i32⟩
  | .hbm, ⟨11, _⟩ => ⟨S4x16512, .i32⟩
  | .hbm, ⟨12, _⟩ => ⟨S4x16512, .i32⟩
  | .hbm, ⟨13, _⟩ => ⟨S4x16512x1, .i32⟩
  | .hbm, ⟨14, _⟩ => ⟨S4x16512x1024, .f32⟩
  | .hbm, ⟨15, _⟩ => ⟨S1x1024, .f32⟩
  | .hbm, ⟨16, _⟩ => ⟨S16512x1024, .f32⟩
  | .local _ .vmem, ⟨0, _⟩ => ⟨S384x1024, .f32⟩
  | .local _ .vmem, ⟨1, _⟩ => ⟨S384x1024, .f32⟩
  | .local _ .vmem, ⟨2, _⟩ => ⟨S4x384x1024, .f32⟩
  | .local _ .vmem, ⟨3, _⟩ => ⟨S4x384x1024, .f32⟩
  | .local _ .vmem, ⟨4, _⟩ => ⟨S384x128, .f32⟩
  | .local _ .vmem, ⟨5, _⟩ => ⟨S384x128, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16512x1024 : Shape := ⟨2, ![16512, 1024]⟩
abbrev S74240x1024 : Shape := ⟨2, ![74240, 1024]⟩
abbrev S16512x4 : Shape := ⟨2, ![16512, 4]⟩
abbrev S16512x128 : Shape := ⟨2, ![16512, 128]⟩
abbrev S1024 : Shape := ⟨1, ![1024]⟩
abbrev S_ : Shape := ⟨0, ![]⟩
abbrev S16512x4x1 : Shape := ⟨3, ![16512, 4, 1]⟩
abbrev S16512x4x1024 : Shape := ⟨3, ![16512, 4, 1024]⟩
abbrev S16512 : Shape := ⟨1, ![16512]⟩
abbrev S16512x1 : Shape := ⟨2, ![16512, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S74240x1024, .f32⟩
  | .hbm, ⟨2, _⟩ => ⟨S16512x4, .i32⟩
  | .hbm, ⟨3, _⟩ => ⟨S16512x128, .f32⟩
  | .hbm, ⟨4, _⟩ => ⟨S1024, .f32⟩
  | .hbm, ⟨5, _⟩ => ⟨S_, .i32⟩
  | .hbm, ⟨6, _⟩ => ⟨S16512x4, .i32⟩
  | .hbm, ⟨7, _⟩ => ⟨S16512x4, .i1⟩
  | .hbm, ⟨8, _⟩ => ⟨S_, .i32⟩
  | .hbm, ⟨9, _⟩ => ⟨S16512x4, .i32⟩
  | .hbm, ⟨10, _⟩ => ⟨S16512x4, .i32⟩
  | .hbm, ⟨11, _⟩ => ⟨S16512x4, .i32⟩
  | .hbm, ⟨12, _⟩ => ⟨S16512x4x1, .i32⟩
  | .hbm, ⟨13, _⟩ => ⟨S16512x4x1024, .f32⟩
  | .hbm, ⟨14, _⟩ => ⟨S16512x4, .f32⟩
  | .hbm, ⟨15, _⟩ => ⟨S16512x4x1, .f32⟩
  | .hbm, ⟨16, _⟩ => ⟨S16512x4x1024, .f32⟩
  | .hbm, ⟨17, _⟩ => ⟨S16512x4x1024, .f32⟩
  | .hbm, ⟨18, _⟩ => ⟨S_, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S_, .f32⟩
  | .hbm, ⟨23, _⟩ => ⟨S16512, .f32⟩
  | .hbm, ⟨24, _⟩ => ⟨S16512x1, .f32⟩
  | .hbm, ⟨25, _⟩ => ⟨S_, .f32⟩
  | .hbm, ⟨26, _⟩ => ⟨S16512x1, .f32⟩
  | .hbm, ⟨27, _⟩ => ⟨S16512x1, .f32⟩
  | .hbm, ⟨28, _⟩ => ⟨S_, .f32⟩
  | .hbm, ⟨29, _⟩ => ⟨S16512x1, .f32⟩
  | .hbm, ⟨30, _⟩ => ⟨S16512x1, .f32⟩
  | .hbm, ⟨31, _⟩ => ⟨S16512x1, .f32⟩
  | .hbm, ⟨32, _⟩ => ⟨S16512x1024, .f32⟩
  | .hbm, ⟨33, _⟩ => ⟨S16512x1024, .f32⟩
  | .hbm, ⟨34, _⟩ => ⟨S1x1024, .f32⟩
  | .hbm, ⟨35, _⟩ => ⟨S16512x1024, .f32⟩
  | .hbm, ⟨36, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1x32 : Shape := ⟨2, ![1, 32]⟩
abbrev S1x1024 : Shape := ⟨2, ![1, 1024]⟩
abbrev S16384x128 : Shape := ⟨2, ![16384, 128]⟩
abbrev S512x512 : Shape := ⟨2, ![512, 512]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S512x32 : Shape := ⟨2, ![512, 32]⟩

abbrev nBuf : Space → Nat
  | .hbm => 29
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S512x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S16384x512, .bf16⟩
  | .hbm, ⟨17, _⟩ => ⟨S16384x512, .bf16⟩
  | .hbm, ⟨18, _⟩ => ⟨S16384x512, .bf16⟩
  | .hbm, ⟨19, _⟩ => ⟨S_, .f32⟩
  | .hbm, ⟨20, _⟩ => ⟨S1x32, .f32⟩
  | .hbm, ⟨21, _⟩ => ⟨S1x1024, .f32⟩
  | .hbm, ⟨22, _⟩ => ⟨S1x32, .f32⟩
  | .hbm, ⟨23, _⟩ => ⟨S16384x1024, .f32⟩
  | .hbm, ⟨24, _⟩ => ⟨S16384x1024, .f32⟩
  | .hbm, ⟨25, _⟩ => ⟨S16384x128, .i32⟩
  | .hbm, ⟨26, _⟩ => ⟨S16384x128, .f32⟩
  | .hbm, ⟨27, _⟩ => ⟨S16384x128, .i32⟩
  | .hbm, ⟨28, _⟩ => ⟨S1x32, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x32, .f32⟩
  | .local _ .vmem, ⟨16, _⟩ => ⟨S1x32, .f32⟩
  | .local _ .vmem, ⟨17, _⟩ => ⟨S1x32, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x128, .i32⟩
  | .local _ .vmem, ⟨23, _⟩ => ⟨S512x128, .i32⟩
  | .local _ .vmem, ⟨24, _⟩ => ⟨S512x128, .f32⟩
  | .local _ .vmem, ⟨25, _⟩ => ⟨S512x128, .f32⟩
  | .local _ .vmem, ⟨26, _⟩ => ⟨S512x128, .i32⟩
  | .local _ .vmem, ⟨27, _⟩ => ⟨S512x128, .i32⟩
  | .local _ .vmem, ⟨28, _⟩ => ⟨S1x32, .f32⟩
  | .local _ .vmem, ⟨29, _⟩ => ⟨S1x32, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16384x3x1024 : Shape := ⟨3, ![16384, 3, 1024]⟩
abbrev S16384x1x1024 : Shape := ⟨3, ![16384, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S16384x3x1024, .f32⟩
  | .hbm, ⟨13, _⟩ => ⟨S16384x1x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.MoeBody.lean ====
/- The body of the routed-expert kernel at one grid point.

   The kernel keeps the current expert's two weight matrices, rounded, in two scratch buffers.  At a grid point it
   first reloads them when the block's expert differs from the block before (or at the first point), and then either
   computes its 256 rows (the block is in use) or stores zeros.  `bodyRun` is that, as one triple: what the scratch
   buffers and the output block hold afterwards, in terms of what was there before. -/
module

public import proofs.«01_k».proof.Proof.Gen.KernelIdeal.Skeleton
public import proofs.«01_k».proof.Proof.Gen.KernelIdeal.Launch
public import Idealize.ShloMosaic.Lib.Pipeline.Frame
public import Idealize.ShloMosaic.Lib.Pipeline.FrameBody
public import Idealize.ShloMosaic.Lib.Pipeline.TableIdle
public import Idealize.ShloMosaic.Lib.VecWindow
public import Idealize.ShloMosaic.Lib.Claim

@[expose] public section

set_option maxRecDepth 16384
set_option Elab.async false

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts, the count of blocks in use, and the two scratch buffers, as the body is handed them. -/
abbrev tbE : Memref sig .tc .smem S290 .i32 := Memref.whole main_arg2
abbrev tbN : Memref sig .tc .smem S1 .i32 := Memref.whole main_arg3
abbrev scUp : Memref sig .tc .vmem S1024x2048 .bf16 := Memref.whole cc0_scratch0
abbrev scDown : Memref sig .tc .vmem S1024x1024 .bf16 := Memref.whole cc0_scratch1

/-- The three words the body reads: this block's expert, the expert of the block before, the blocks in use. -/
abbrev expertOf (T : S290.Idx → BitVec 32) (i : grid0.Coords) : BitVec 32 :=
  View.readAt (Elt F) tbE.view (Rect.unit (s := S290) (k0_off1 i) S1.size (k0_off1_inb i)).toLoadRect T (Shape.Idx.first (numel1_S1.symm ▸ Nat.one_pos))
abbrev expertBefore (T : S290.Idx → BitVec 32) (i : grid0.Coords) : BitVec 32 :=
  View.readAt (Elt F) tbE.view (Rect.unit (s := S290) (k0_off2 i) S1.size (k0_off2_inb i)).toLoadRect T (Shape.Idx.first (numel1_S1.symm ▸ Nat.one_pos))
abbrev blocksUsed (T : S1.Idx → BitVec 32) : BitVec 32 :=
  View.readAt (Elt F) tbN.view (Rect.unit (s := S1) ![0] S1.size inb_S1_S1_0).toLoadRect T (Shape.Idx.first (numel1_S1.symm ▸ Nat.one_pos))

/-- The body reloads the weights at this point. -/
abbrev Reload (T : S290.Idx → BitVec 32) (i : grid0.Coords) : Prop :=
  Scalar.cmpi .ne (Scalar.extui (Scalar.ori (Scalar.cmpi .eq (BitVec.ofNat 32 (i 0).val) 0#32)
    (Scalar.cmpi .ne (expertOf (F := F) T i) (expertBefore (F := F) T i))) : BitVec 32) 0#32 = 1#1
/-- The body computes its rows at this point (otherwise it stores zeros). -/
abbrev Used (T : S1.Idx → BitVec 32) (i : grid0.Coords) : Prop := k0_cond2 i (blocksUsed (F := F) T) = 1#1

/-- A block is either in use or not: the two tests of the body exclude each other and cover all cases. -/
theorem cond3_iff (i : grid0.Coords) (v : BitVec 32) : k0_cond3 i v = 1#1 ↔ ¬ k0_cond2 i v = 1#1 := by
  unfold k0_cond2 k0_cond3
  simp only [Scalar.cmpi, Scalar.extui, IntOp.cmpi]
  by_cases h : BitVec.slt (BitVec.ofNat 32 (i 0).val) v
  · have h' : BitVec.sle v (BitVec.ofNat 32 (i 0).val) = false := by
      simp only [BitVec.slt, BitVec.sle, decide_eq_true_eq, decide_eq_false_iff_not] at *; omega
    rw [h, h']; decide
  · have h' : BitVec.sle v (BitVec.ofNat 32 (i 0).val) = true := by
      simp only [BitVec.slt, BitVec.sle, decide_eq_true_eq] at *; omega
    rw [Bool.eq_false_iff.mpr h, h']; decide

/-- Equal operands give equal rows. -/
theorem pay3_congr {a a' : Vec F S256x1024 .f32} {b b' : Vec F S1024x2048 .bf16} {d d' : Vec F S1x1x2048 .f32} {e e' : Vec F S1024x1024 .bf16} {g g' : Vec F S1x1x1024 .f32}
    (ha : a = a') (hb : b = b') (hd : d = d') (he : e = e') (hg : g = g') : k0_pay3 a b d e g = k0_pay3 a' b' d' e' g' := by
  subst ha hb hd he hg; rfl

set_option backward.proofsInPublic true in
set_option maxHeartbeats 16000000 in
/-- The body at one grid point: afterwards the scratch buffers hold this block's weights if it reloaded them and what
    they held otherwise, and the output block holds the block's rows (in use) or zeros. -/
theorem bodyRun (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S290.Idx → Elt F .i32) (T1 : S1.Idx → Elt F .i32)
    (x0 : S256x1024.Idx → Elt F .f32) (x1 : S1x1024x2048.Idx → Elt F .f32) (x2 : S1x1x2048.Idx → Elt F .f32) (x3 : S1x1024x1024.Idx → Elt F .f32) (x4 : S1x1x1024.Idx → Elt F .f32)
    (s0 : S1024x2048.Idx → Elt F .bf16) (s1 : S1024x1024.Idx → Elt F .bf16)
    (s0' : S1024x2048.Idx → Elt F .bf16) (s1' : S1024x1024.Idx → Elt F .bf16) (o : S256x1024.Idx → Elt F .f32)
    (hr : Reload (F := F) T0 i → s0' = k0_pay1 x1 ∧ s1' = k0_pay2 x3) (hk : ¬ Reload (F := F) T0 i → s0' = s0 ∧ s1' = s1)
    (hu : Used (F := F) T1 i → o = k0_pay3 x0 s0' x2 s1' x4) (hz : ¬ Used (F := F) T1 i → o = k0_pay4) (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbE.view.loc (c : Thread nD τ) ↦{fullShare.right} T0)
          ∗ (tbN.view.loc (c : Thread nD τ) ↦{fullShare.right} T1)
          ∗ (∃ d, owns (c : Thread nD τ) arg8 fullShare d)
          ∗ (scUp.view.loc (c : Thread nD τ) ↦[scUp.view.set]{fullShare} scUp.view.rep s0)
          ∗ (scDown.view.loc (c : Thread nD τ) ↦[scDown.view.set]{fullShare} scDown.view.rep s1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbE.view.loc (c : Thread nD τ) ↦{fullShare.right} T0)
              ∗ (tbN.view.loc (c : Thread nD τ) ↦{fullShare.right} T1)
              ∗ owns (c : Thread nD τ) arg8 fullShare o
              ∗ owns (c : Thread nD τ) scUp fullShare s0'
              ∗ owns (c : Thread nD τ) scDown fullShare s1') -∗ K ⟨⟩))
      ⊢ wp frame (wpE (defs₀ (F := F)) Variants.none c none) Set.univ (cc0_moe_experts i tbE (Memref.isWhole_whole _) tbN (Memref.isWhole_whole _) arg3 harg3 arg4 harg4 arg5 harg5 arg6 harg6 arg7 harg7 arg8 harg8 scUp (Memref.isWhole_whole _) scDown (Memref.isWhole_whole _)) K := by
  have hS0 : scUp.IsWhole := Memref.isWhole_whole _
  have hS1 : scDown.IsWhole := Memref.isWhole_whole _
  have hT0 : tbE.IsWhole := Memref.isWhole_whole _
  have hT1 : tbN.IsWhole := Memref.isWhole_whole _
  unfold owns
  rw [cc0_moe_experts_eq_skeleton]; unfold cc0_moe_experts_skel
  by_cases hc0 : Reload (F := F) T0 i
  · obtain ⟨e0, e1⟩ := hr hc0
    by_cases k0_h2 : Used (F := F) T1 i
    · have k0_h3 : ¬ k0_cond3 i (blocksUsed (F := F) T1) = 1#1 := fun h => (cond3_iff _ _).mp h k0_h2
      have eo := hu k0_h2
      iintro ⟨H0, H1, H2, H3, H4, HT0, HT1, ⟨%d5, %f5, -, HO5⟩, HS0, HS1, Hk⟩
      sl_exec (disch := first | (guard_target = k0_cond2 _ _ = _; exact k0_h2) | (guard_target = ¬(k0_cond3 _ _ = _); exact k0_h3) | exact hc0)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; rw [eo, e0, e1]; exact (View.read_writes_full _ _ _ _ _).trans (pay3_congr (View.readAt_rep_full _ _ _) ((View.readCov_full _ _ _ _ _).trans (congrArg k0_pay1 (View.readAt_rep_full _ _ _))) (View.readAt_rep_full _ _ _) ((View.readCov_full _ _ _ _ _).trans (congrArg k0_pay2 (View.readAt_rep_full _ _ _))) (View.readAt_rep_full _ _ _))
      isplitl [HS0]
      · iexists _; isplitr; swap
        · iexact HS0
        · ipureintro; rw [e0]; exact (View.read_writes_full _ _ _ _ _).trans (congrArg k0_pay1 (View.readAt_rep_full _ _ _))
      · iexists _; isplitr; swap
        · iexact HS1
        · ipureintro; rw [e1]; exact (View.read_writes_full _ _ _ _ _).trans (congrArg k0_pay2 (View.readAt_rep_full _ _ _))
    · have k0_h3 : k0_cond3 i (blocksUsed (F := F) T1) = 1#1 := (cond3_iff _ _).mpr k0_h2
      have eo := hz k0_h2
      iintro ⟨H0, H1, H2, H3, H4, HT0, HT1, ⟨%d5, %f5, -, HO5⟩, HS0, HS1, Hk⟩
      sl_exec (disch := first | (guard_target = ¬(k0_cond2 _ _ = _); exact k0_h2) | (guard_target = k0_cond3 _ _ = _; exact k0_h3) | exact hc0)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; rw [eo]; exact View.read_writes_full _ _ _ _ _
      isplitl [HS0]
      · iexists _; isplitr; swap
        · iexact HS0
        · ipureintro; rw [e0]; exact (View.read_writes_full _ _ _ _ _).trans (congrArg k0_pay1 (View.readAt_rep_full _ _ _))
      · iexists _; isplitr; swap
        · iexact HS1
        · ipureintro; rw [e1]; exact (View.read_writes_full _ _ _ _ _).trans (congrArg k0_pay2 (View.readAt_rep_full _ _ _))
  · obtain ⟨e0, e1⟩ := hk hc0
    by_cases k0_h2 : Used (F := F) T1 i
    · have k0_h3 : ¬ k0_cond3 i (blocksUsed (F := F) T1) = 1#1 := fun h => (cond3_iff _ _).mp h k0_h2
      have eo := hu k0_h2
      iintro ⟨H0, H1, H2, H3, H4, HT0, HT1, ⟨%d5, %f5, -, HO5⟩, HS0, HS1, Hk⟩
      sl_exec (disch := first | (guard_target = k0_cond2 _ _ = _; exact k0_h2) | (guard_target = ¬(k0_cond3 _ _ = _); exact k0_h3) | exact hc0)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; rw [eo, e0, e1]; exact (View.read_writes_full _ _ _ _ _).trans (pay3_congr (View.readAt_rep_full _ _ _) (View.readAt_rep_full _ _ _) (View.readAt_rep_full _ _ _) (View.readAt_rep_full _ _ _) (View.readAt_rep_full _ _ _))
      isplitl [HS0]
      · iexists _; isplitr; swap
        · iexact HS0
        · ipureintro; rw [e0]; exact View.read_rep _ _
      · iexists _; isplitr; swap
        · iexact HS1
        · ipureintro; rw [e1]; exact View.read_rep _ _
    · have k0_h3 : k0_cond3 i (blocksUsed (F := F) T1) = 1#1 := (cond3_iff _ _).mpr k0_h2
      have eo := hz k0_h2
      iintro ⟨H0, H1, H2, H3, H4, HT0, HT1, ⟨%d5, %f5, -, HO5⟩, HS0, HS1, Hk⟩
      sl_exec (disch := first | (guard_target = ¬(k0_cond2 _ _ = _); exact k0_h2) | (guard_target = k0_cond3 _ _ = _; exact k0_h3) | exact hc0)
      sl_step
      iapply Hk
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [HO5]
      · iexists _; isplitr; swap
        · iexact HO5
        · ipureintro; rw [eo]; exact View.read_writes_full _ _ _ _ _
      isplitl [HS0]
      · iexists _; isplitr; swap
        · iexact HS0
        · ipureintro; rw [e0]; exact View.read_rep _ _
      · iexists _; isplitr; swap
        · iexact HS1
        · ipureintro; rw [e1]; exact View.read_rep _ _

end Cert.KernelIdeal.Moe

end
-- ==== Proof.MoeRun.lean ====
/- The run of the routed-expert kernel's program: the host gather and the pipeline over its 290 blocks.

   What the pipeline carries from one block to the next is the pair of scratch buffers: after a block they hold that
   block's expert's weights, rounded.  Where the body does not reload them the expert has not changed, so they are the
   weights of this block all the same.  The output block is then the block's rows, or zeros past the blocks in use. -/
module

public import proofs.«01_k».proof.Proof.MoeBody
public import Idealize.ShloMosaic.Lib.WordCmp

@[expose] public section

set_option maxRecDepth 16384
set_option Elab.async false

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the pipeline -/

/-- A core's buffers when the pipeline starts: the host operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_arg (c : Dev nD) (b : Ref sig .tc) (hb : b ∈ [main_arg0, main_arg1, main_arg2, main_arg3, main_arg4, main_arg5, main_arg6, main_arg7]) :
    V m c b = m ((c : Thread nD τ).loc b) :=
  StableHlo.after_of_forall_not_mem (b := Proc.devRef .tc b) _ _ (List.forall_iff_forall_mem.mp (by
    simp only [List.mem_cons, List.not_mem_nil, or_false] at hb
    rcases hb with rfl | rfl | rfl | rfl | rfl | rfl | rfl | rfl <;>
    (simp only [hostOps0, List.Forall, StableHlo.nullary_writes, StableHlo.unary_writes, StableHlo.binary_writes, StableHlo.ternary_writes, StableHlo.reshape_writes, Finset.mem_singleton]
     repeat' apply And.intro
     all_goals decide)))

/-! ## The two tables -/

/-- The tables' contents when the pipeline starts (the program runs on one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block's expert is one of the 32. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)
abbrev tE : S290.Idx → Elt F .i32 := tbl m 0
abbrev tN : S1.Idx → Elt F .i32 := tbl m 1

theorem PhiT0_eq (c : Dev nD) : (Pipeline.ΦT pre0 (tbl m) c : sProp 𝕄) = iprop((tbE.view.loc (c : Thread nD τ) ↦{fullShare.right} tE m) ∗ (tbN.view.loc (c : Thread nD τ) ↦{fullShare.right} tN m)) := by
  unfold Pipeline.ΦT Pipeline.prefHeld
  rw [bigSep_univ_eq_bigSepL [(0 : Fin 2), (1 : Fin 2)] (by decide) (by decide)]
  rfl

/-! ## The windows' blocks -/

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The weights do not change where they are not reloaded -/

theorem coord (t : Fin grid0.N) : ((grid0.coords t) 0).val = t.val :=
  (Pipeline.Grid.coords_val t 0 (by decide : grid0.stride 0 = 1) rfl).trans (by rw [Nat.div_one]; exact Nat.mod_eq_of_lt (lt_of_lt_of_eq t.isLt N_0))

/-- The word of the experts' table at a block. -/
abbrev word (T : S290.Idx → Elt F .i32) (n : ℕ) (h : n < 290) : BitVec 32 := T (fun a => ⟨n, by obtain rfl : a = 0 := Subsingleton.elim (α := Fin 1) a 0; exact h⟩)

theorem off1_val (i : grid0.Coords) : k0_off1 i 0 = (i 0).val := by
  have h : (i 0).val < 290 := (i 0).isLt
  show (BitVec.ofNat 32 (i 0).val).toNat = _
  rw [BitVec.toNat_ofNat]; omega

theorem off2_val (i : grid0.Coords) (h0 : (i 0).val ≠ 0) : k0_off2 i 0 = (i 0).val - 1 := by
  have h : (i 0).val < 290 := (i 0).isLt
  show (Scalar.maxsi (Scalar.subi (BitVec.ofNat 32 (i 0).val) 1#32) 0#32 : BitVec 32).toNat = _
  have e : (Scalar.subi (BitVec.ofNat 32 (i 0).val) 1#32 : BitVec 32) = BitVec.ofNat 32 ((i 0).val - 1) := by
    apply BitVec.eq_of_toNat_eq
    show (BitVec.ofNat 32 (i 0).val - 1#32).toNat = _
    simp only [BitVec.toNat_sub, BitVec.toNat_ofNat]; omega
  rw [e]
  have hn : (i 0).val - 1 < 290 := by omega
  generalize (i 0).val - 1 = n at hn ⊢
  show (if BitVec.slt 0#32 (BitVec.ofNat 32 n) then BitVec.ofNat 32 n else 0#32 : BitVec 32).toNat = n
  by_cases hz : n = 0
  · subst hz; rfl
  · rw [if_pos]
    · rw [BitVec.toNat_ofNat]; omega
    · simp only [BitVec.slt, decide_eq_true_eq, BitVec.toInt, BitVec.toNat_ofNat]; omega

theorem expertOf_eq (T : S290.Idx → Elt F .i32) (i : grid0.Coords) : expertOf (F := F) T i = word T (i 0).val (i 0).isLt := by
  refine congrArg (T) (funext fun a : Fin 1 => ?_)
  obtain rfl : a = 0 := Subsingleton.elim a 0
  apply Fin.ext
  show k0_off1 i 0 + _ = _
  rw [off1_val]; rfl

theorem expertBefore_eq (T : S290.Idx → Elt F .i32) (i : grid0.Coords) (h0 : (i 0).val ≠ 0) :
    expertBefore (F := F) T i = word T ((i 0).val - 1) (Nat.lt_of_le_of_lt (Nat.sub_le _ _) (i 0).isLt) := by
  refine congrArg (T) (funext fun a : Fin 1 => ?_)
  obtain rfl : a = 0 := Subsingleton.elim a 0
  apply Fin.ext
  show k0_off2 i 0 + _ = _
  rw [off2_val i h0]; rfl

theorem at_eq (i : grid0.Coords) : (tbl m).at 0 (Rect.unit (s := S290) ![(Scalar.indexCast (BitVec.ofNat 32 (i 0).val)).toNat] S1.size (k0_off1_inb i)) numel1_S1 = word (tE m) (i 0).val (i 0).isLt := by
  refine congrArg (tE m) (funext fun a : Fin 1 => ?_)
  obtain rfl : a = 0 := Subsingleton.elim a 0
  apply Fin.ext
  show k0_off1 i 0 + _ = _
  rw [off1_val]; rfl

theorem reload_word : ∀ a b : BitVec 1, Scalar.cmpi .ne (Scalar.extui (Scalar.ori a b) : BitVec 32) 0#32 = 1#1 ↔ a = 1#1 ∨ b = 1#1 := by decide
theorem cmp_eq (x y : BitVec 32) : Scalar.cmpi .eq x y = 1#1 ↔ x = y := by
  show BitVec.ofBool (x == y) = 1#1 ↔ _
  by_cases h : x = y
  · simp [h]
  · rw [beq_eq_false_iff_ne.mpr h]; exact ⟨fun e => absurd e (by decide), fun e => absurd e h⟩
theorem cmp_ne (x y : BitVec 32) : Scalar.cmpi .ne x y = 1#1 ↔ x ≠ y := by
  show BitVec.ofBool (!(x == y)) = 1#1 ↔ _
  by_cases h : x = y
  · simp [h]
  · rw [beq_eq_false_iff_ne.mpr h]; exact ⟨fun _ => h, fun _ => rfl⟩

/-- The body reloads at the first block. -/
theorem reload_first (T : S290.Idx → Elt F .i32) (i : grid0.Coords) (h : (i 0).val = 0) : Reload (F := F) T i := by
  unfold Reload; rw [reload_word, cmp_eq, h]; exact .inl rfl

theorem not_reload (T : S290.Idx → Elt F .i32) (i : grid0.Coords) (h : ¬ Reload (F := F) T i) : (i 0).val ≠ 0 ∧ expertOf (F := F) T i = expertBefore (F := F) T i := by
  refine ⟨fun e => h (reload_first T i e), ?_⟩
  unfold Reload at h; rw [reload_word, cmp_eq, cmp_ne] at h
  exact not_not.mp fun e => h (.inr e)

theorem iblk_ix1 (hO : Ok m) (c : Dev nD) (t t' : Fin (cfgM m hO).N) (h : ix0 (tbl m) 1 (grid0.coords t) = ix0 (tbl m) 1 (grid0.coords t')) :
    (iblk m hO c 1 t : S1x1024x2048.Idx → Elt F .f32) = iblk m hO c 1 t' := by
  have key : ∀ (x y : Fin 3 → ℕ) (hx : ∀ a, (x a + 1) * S1x1024x2048.size a ≤ S32x1024x2048.size a) (hy : ∀ a, (y a + 1) * S1x1024x2048.size a ≤ S32x1024x2048.size a), x = y →
      (fun j => V m c main_arg4 ((Rect.block (s := S32x1024x2048) S1x1024x2048.size x hx).emb j)) = fun j => V m c main_arg4 ((Rect.block (s := S32x1024x2048) S1x1024x2048.size y hy).emb j) := by
    intro x y hx hy e; subst e; rfl
  exact key _ _ (hinb0 (tbl m) hO 1 _) (hinb0 (tbl m) hO 1 _) h
theorem iblk_ix3 (hO : Ok m) (c : Dev nD) (t t' : Fin (cfgM m hO).N) (h : ix0 (tbl m) 3 (grid0.coords t) = ix0 (tbl m) 3 (grid0.coords t')) :
    (iblk m hO c 3 t : S1x1024x1024.Idx → Elt F .f32) = iblk m hO c 3 t' := by
  have key : ∀ (x y : Fin 3 → ℕ) (hx : ∀ a, (x a + 1) * S1x1024x1024.size a ≤ S32x1024x1024.size a) (hy : ∀ a, (y a + 1) * S1x1024x1024.size a ≤ S32x1024x1024.size a), x = y →
      (fun j => V m c main_arg6 ((Rect.block (s := S32x1024x1024) S1x1024x1024.size x hx).emb j)) = fun j => V m c main_arg6 ((Rect.block (s := S32x1024x1024) S1x1024x1024.size y hy).emb j) := by
    intro x y hx hy e; subst e; rfl
  exact key _ _ (hinb0 (tbl m) hO 3 _) (hinb0 (tbl m) hO 3 _) h

theorem ix_eq (i : grid0.Coords) : ix0 (tbl m) 1 i = ![(word (tE m) (i 0).val (i 0).isLt).toNat, 0, 0] := by
  show ![((tbl m).at 0 (Rect.unit (s := S290) ![(Scalar.indexCast (BitVec.ofNat 32 (i 0).val)).toNat] S1.size (k0_off1_inb i)) numel1_S1 : BitVec 32).toNat, (0#32).toNat, (0#32).toNat] = _
  rw [at_eq]; rfl

/-- Where the body keeps the scratch buffers, the block before had the same weights. -/
theorem keep (hO : Ok m) (c : Dev nD) (t : Fin (cfgM m hO).N) (h : ¬ Reload (F := F) (tE m) (grid0.coords t)) :
    ∃ h' : t.val - 1 < (cfgM m hO).N, (iblk m hO c 1 ⟨t.val - 1, h'⟩ : S1x1024x2048.Idx → Elt F .f32) = iblk m hO c 1 t
      ∧ (iblk m hO c 3 ⟨t.val - 1, h'⟩ : S1x1024x1024.Idx → Elt F .f32) = iblk m hO c 3 t := by
  have h' : t.val - 1 < (cfgM m hO).N := Nat.lt_of_le_of_lt (Nat.sub_le _ _) t.isLt
  obtain ⟨h0, he⟩ := not_reload _ _ h
  rw [expertOf_eq, expertBefore_eq _ _ h0] at he
  have e : ix0 (tbl m) 1 (grid0.coords ⟨t.val - 1, h'⟩) = ix0 (tbl m) 1 (grid0.coords t) := by
    rw [ix_eq, ix_eq, he]
    congr 3
    show ((grid0.coords ⟨t.val - 1, h'⟩) 0).val = ((grid0.coords t) 0).val - 1
    rw [coord, coord]
  exact ⟨h', iblk_ix1 m hO c _ _ e, iblk_ix3 m hO c _ _ e⟩

/-! ## What the pipeline carries -/

/-- The scratch buffers after a point: the point's weights, rounded. -/
abbrev scr0 (hO : Ok m) (c : Dev nD) (t : Fin (cfgM m hO).N) : Vec F S1024x2048 .bf16 := k0_pay1 (iblk m hO c 1 t)
abbrev scr1 (hO : Ok m) (c : Dev nD) (t : Fin (cfgM m hO).N) : Vec F S1024x1024 .bf16 := k0_pay2 (iblk m hO c 3 t)

open Classical in
/-- The output block after a point: its rows where the block is in use, zeros past those. -/
def rows (hO : Ok m) (c : Dev nD) (t : Fin (cfgM m hO).N) : Vec F S256x1024 .f32 :=
  if Used (F := F) (tN m) (grid0.coords t) then k0_pay3 (iblk m hO c 0 t) (scr0 m hO c t) (iblk m hO c 2 t) (scr1 m hO c t) (iblk m hO c 4 t) else k0_pay4

theorem PhiA0_eq (c : Dev nD) : (Pipeline.ΦA spec0 c : sProp 𝕄)
    = iprop(iprop((∃ d, owns (c : Thread nD τ) scUp fullShare d) ∗ (∃ d, owns (c : Thread nD τ) scDown fullShare d)) ∗ (∃ r, prngReg c r)) := by
  unfold Pipeline.ΦA; rw [scopedRest0_eq]; simp only [scUp, scDown, owns_whole]; try rfl

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scUp fullShare (scr0 m hO c ⟨n, hn⟩) ∗ owns (c : Thread nD τ) scDown fullShare (scr1 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scUp fullShare (scr0 m hO c ⟨n, hn⟩) ∗ owns (c : Thread nD τ) scDown fullShare (scr1 m hO c ⟨n, hn⟩)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scUp fullShare (scr0 m hO c ⟨n - 1, by omega⟩) ∗ owns (c : Thread nD τ) scDown fullShare (scr1 m hO c ⟨n - 1, by omega⟩)) ∗ (∃ r, prngReg c r)) ∗ Pipeline.ΦT pre0 (tbl m) c) := by
  cases n with
  | zero => exact absurd rfl hz
  | succ n => rfl

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => rows m hO c t
    | ⟨_ + 6, h⟩ => absurd h (Nat.not_lt.2 (Nat.le_add_left _ _))
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
set_option maxHeartbeats 4000000 in
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = rows m hO c t := by dsimp only [dats]; try rfl
theorem before0_0 (hO : Ok m) (c : Dev nD) (t : Fin (cfgM m hO).N) (d) : (dats m hO 0 c).before 0 t d = iblk m hO c 0 t := before0_0_of m hO _ (A_eq m hO c 0) (after0_0 m hO c) t d
theorem before0_1 (hO : Ok m) (c : Dev nD) (t : Fin (cfgM m hO).N) (d) : (dats m hO 0 c).before 1 t d = iblk m hO c 1 t := before0_1_of m hO _ (A_eq m hO c 1) (after0_1 m hO c) t d
theorem before0_2 (hO : Ok m) (c : Dev nD) (t : Fin (cfgM m hO).N) (d) : (dats m hO 0 c).before 2 t d = iblk m hO c 2 t := before0_2_of m hO _ (A_eq m hO c 2) (after0_2 m hO c) t d
theorem before0_3 (hO : Ok m) (c : Dev nD) (t : Fin (cfgM m hO).N) (d) : (dats m hO 0 c).before 3 t d = iblk m hO c 3 t := before0_3_of m hO _ (A_eq m hO c 3) (after0_3 m hO c) t d
theorem before0_4 (hO : Ok m) (c : Dev nD) (t : Fin (cfgM m hO).N) (d) : (dats m hO 0 c).before 4 t d = iblk m hO c 4 t := before0_4_of m hO _ (A_eq m hO c 4) (after0_4 m hO c) t d
abbrev ms0_0 (hO : Ok m) (t : Fin (cfgM m hO).N) := spec0_0.stage ((cfgM m hO).slots t 0)
abbrev ms0_1 (hO : Ok m) (t : Fin (cfgM m hO).N) := spec0_1.stage ((cfgM m hO).slots t 1)
abbrev ms0_2 (hO : Ok m) (t : Fin (cfgM m hO).N) := spec0_2.stage ((cfgM m hO).slots t 2)
abbrev ms0_3 (hO : Ok m) (t : Fin (cfgM m hO).N) := spec0_3.stage ((cfgM m hO).slots t 3)
abbrev ms0_4 (hO : Ok m) (t : Fin (cfgM m hO).N) := spec0_4.stage ((cfgM m hO).slots t 4)
abbrev ms0_5 (hO : Ok m) (t : Fin (cfgM m hO).N) := spec0_5.stage ((cfgM m hO).slots t 5)
theorem liveAt0_0 (hO : Ok m) : ∀ t : Fin (cfgM m hO).N, (cfgM m hO).idle 0 (grid0.coords t) = false := fun _ => rfl
theorem liveAt0_1 (hO : Ok m) : ∀ t : Fin (cfgM m hO).N, (cfgM m hO).idle 1 (grid0.coords t) = false := fun _ => rfl
theorem liveAt0_2 (hO : Ok m) : ∀ t : Fin (cfgM m hO).N, (cfgM m hO).idle 2 (grid0.coords t) = false := fun _ => rfl
theorem liveAt0_3 (hO : Ok m) : ∀ t : Fin (cfgM m hO).N, (cfgM m hO).idle 3 (grid0.coords t) = false := fun _ => rfl
theorem liveAt0_4 (hO : Ok m) : ∀ t : Fin (cfgM m hO).N, (cfgM m hO).idle 4 (grid0.coords t) = false := fun _ => rfl
theorem live5 (i : grid0.Coords) (v : BitVec 32) : (!(k0_cond2 i v == 1#1) && !(k0_cond3 i v == 1#1)) = false := by
  by_cases h : k0_cond2 i v = 1#1
  · rw [h]; rfl
  · rw [(cond3_iff _ _).mpr h]; simp
theorem live5_of (a : (pcfg0 (F := F)).Adm) (t : Fin (cfg0 a).N) : (cfg0 a).idle 5 (grid0.coords t) = false :=
  live5 (grid0.coords t) (a.1.atD 1 ![0])
theorem liveAt0_5 (hO : Ok m) (t : Fin (cfgM m hO).N) : (cfgM m hO).idle 5 (grid0.coords t) = false := live5_of (adm m hO) t

theorem leaves0_0 (hO : Ok m) (c : Dev nD) (t : Fin (cfgM m hO).N) : (dats m hO 0 c).leavesExact 0 t = (owns (c : Thread nD τ) (ms0_0 m hO t) fullShare (iblk m hO c 0 t) : sProp 𝕄) := by
  rw [← after0_0]; unfold Dat.leavesExact; rw [liveAt0_0 m hO t]; try rfl
theorem leaves0_1 (hO : Ok m) (c : Dev nD) (t : Fin (cfgM m hO).N) : (dats m hO 0 c).leavesExact 1 t = (owns (c : Thread nD τ) (ms0_1 m hO t) fullShare (iblk m hO c 1 t) : sProp 𝕄) := by
  rw [← after0_1]; unfold Dat.leavesExact; rw [liveAt0_1 m hO t]; try rfl
theorem leaves0_2 (hO : Ok m) (c : Dev nD) (t : Fin (cfgM m hO).N) : (dats m hO 0 c).leavesExact 2 t = (owns (c : Thread nD τ) (ms0_2 m hO t) fullShare (iblk m hO c 2 t) : sProp 𝕄) := by
  rw [← after0_2]; unfold Dat.leavesExact; rw [liveAt0_2 m hO t]; try rfl
theorem leaves0_3 (hO : Ok m) (c : Dev nD) (t : Fin (cfgM m hO).N) : (dats m hO 0 c).leavesExact 3 t = (owns (c : Thread nD τ) (ms0_3 m hO t) fullShare (iblk m hO c 3 t) : sProp 𝕄) := by
  rw [← after0_3]; unfold Dat.leavesExact; rw [liveAt0_3 m hO t]; try rfl
theorem leaves0_4 (hO : Ok m) (c : Dev nD) (t : Fin (cfgM m hO).N) : (dats m hO 0 c).leavesExact 4 t = (owns (c : Thread nD τ) (ms0_4 m hO t) fullShare (iblk m hO c 4 t) : sProp 𝕄) := by
  rw [← after0_4]; unfold Dat.leavesExact; rw [liveAt0_4 m hO t]; try rfl
theorem leaves0_5 (hO : Ok m) (c : Dev nD) (t : Fin (cfgM m hO).N) : (dats m hO 0 c).leavesExact 5 t = (owns (c : Thread nD τ) (ms0_5 m hO t) fullShare (rows m hO c t) : sProp 𝕄) := by
  rw [← after0_5]; unfold Dat.leavesExact; rw [liveAt0_5 m hO t]; try rfl

/-- The body as the pipeline calls it. -/
abbrev bodyAt (hO : Ok m) (t : Fin (cfgM m hO).N) : Prog (TpuEff nD τ sig (Elt F) Λ₀ .tc) PUnit :=
  cc0_moe_experts (grid0.coords t) tbE (Memref.isWhole_whole _) tbN (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) scUp (Memref.isWhole_whole _) scDown (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

theorem rows_used (hO : Ok m) (c : Dev nD) (t : Fin (cfgM m hO).N) (h : Used (F := F) (tN m) (grid0.coords t)) :
    rows m hO c t = k0_pay3 (iblk m hO c 0 t) (scr0 m hO c t) (iblk m hO c 2 t) (scr1 m hO c t) (iblk m hO c 4 t) := by
  unfold rows; exact if_pos h
theorem rows_unused (hO : Ok m) (c : Dev nD) (t : Fin (cfgM m hO).N) (h : ¬ Used (F := F) (tN m) (grid0.coords t)) :
    rows m hO c t = k0_pay4 := by
  unfold rows; exact if_neg h

set_option maxHeartbeats 8000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [leaves0_0, leaves0_1, leaves0_2, leaves0_3, leaves0_4, leaves0_5]
  by_cases hz : t.val = 0
  · rw [PhiS_castSucc m hO c t, PhiS_zero m hO c _ _ hz, PhiT0_eq, PhiA0_eq]
    iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩, ⟨%d4, H4⟩, H5⟩
    have hrel : Reload (F := F) (tE m) (grid0.coords t) := reload_first _ _ ((coord t).trans hz)
    iapply (bodyRun c (grid0.coords t) _ _ _ _ _ _ _ _ _ _ _ _ (tE m) (tN m) (iblk m hO c 0 t) (iblk m hO c 1 t) (iblk m hO c 2 t) (iblk m hO c 3 t) (iblk m hO c 4 t) s0 s1 (scr0 m hO c t) (scr1 m hO c t) (rows m hO c t)
      (fun _ => ⟨rfl, rfl⟩) (fun h => absurd hrel h) (rows_used m hO c t) (rows_unused m hO c t) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]
    · icases H5 with ⟨%d5, H5⟩; iexists _; iexact H5
    isplitl [HS0]; · iapply rep_of_owns; iexact HS0
    isplitl [HS1]; · iapply rep_of_owns; iexact HS1
    iintro ⟨H0, H1, H2, H3, H4, HT0, HT1, H5, HS0, HS1⟩
    isplitl [HS0 HS1 Hg HT0 HT1]
    · isplitl [HS0 HS1 Hg]
      · isplitl [HS0 HS1]
        · isplitl [HS0]
          · iexact HS0
          · iexact HS1
        · iexact Hg
      · isplitl [HT0]
        · iexact HT0
        · iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5
  · rw [PhiS_castSucc m hO c t, PhiS_pos m hO c _ _ hz, PhiT0_eq]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, H5⟩
    iapply (bodyRun c (grid0.coords t) _ _ _ _ _ _ _ _ _ _ _ _ (tE m) (tN m) (iblk m hO c 0 t) (iblk m hO c 1 t) (iblk m hO c 2 t) (iblk m hO c 3 t) (iblk m hO c 4 t) (scr0 m hO c ⟨t.val - 1, by omega⟩) (scr1 m hO c ⟨t.val - 1, by omega⟩) (scr0 m hO c t) (scr1 m hO c t) (rows m hO c t)
      (fun _ => ⟨rfl, rfl⟩) (fun h => (keep m hO c t h).elim fun _ e => ⟨congrArg k0_pay1 e.1.symm, congrArg k0_pay2 e.2.symm⟩) (rows_used m hO c t) (rows_unused m hO c t) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]
    · icases H5 with ⟨%d5, H5⟩; iexists _; iexact H5
    isplitl [HS0]; · iapply rep_of_owns; iexact HS0
    isplitl [HS1]; · iapply rep_of_owns; iexact HS1
    iintro ⟨H0, H1, H2, H3, H4, HT0, HT1, H5, HS0, HS1⟩
    isplitl [HS0 HS1 Hg HT0 HT1]
    · isplitl [HS0 HS1 Hg]
      · isplitl [HS0 HS1]
        · isplitl [HS0]
          · iexact HS0
          · iexact HS1
        · iexact Hg
      · isplitl [HT0]
        · iexact HT0
        · iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5

set_option maxHeartbeats 8000000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

set_option maxHeartbeats 4000000 in
theorem last_ne (hO : Ok m) : (Fin.last (cfgM m hO).N).val ≠ 0 := by
  rw [Fin.val_last]; exact fun h => absurd ((N_0 : (cfgM m hO).N = 290).symm.trans h) (by decide)
set_option maxHeartbeats 4000000 in
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl,
    PhiS_pos m hO c _ _ (last_ne m hO), PhiA0_eq]
  iintro ⟨⟨⟨HS0, HS1⟩, Hg⟩, -⟩
  isplitl [HS0 HS1]
  · isplitl [HS0]
    · iexists _; iexact HS0
    iexists _; iexact HS1
  iexact Hg

/-! ## The run -/

set_option maxHeartbeats 4000000 in
set_option backward.isDefEq.respectTransparency.types false in
/-- Every execution ends, with the pipeline's arrays as its data say, every other buffer as the host operations left
    it, and every semaphore at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c w => by unfold Dat.share; split <;> rfl)
    (howed := fun _ _ => rfl) (V := V m) (hmain := hmain m Variants.none) (hA := A_eq m hO) (hpf := V_pre m) (hin := hin m hO) (hout := hout m hO)

end Cert.KernelIdeal.Moe

end
-- ==== Proof.MoePay.lean ====
/- The formula of one routed row, and the kernel's arithmetic read at an entry. -/
module

public import proofs.«01_k».proof.Proof.Gen.KernelIdeal.Skeleton
public import Idealize.ShloMosaic.Lib.Pointwise
public import Idealize.ShloMosaic.Lib.ValueIdxCore

@[expose] public section

set_option maxRecDepth 16384

noncomputable section

namespace Cert.MoeSpec

open Idealize.ShloMosaic

/-- Entry `h` of a row's gate-and-up projection: the row times column `h`, plus that column's bias. -/
def proj (x : Fin 1024 → EReal) (W : Fin 1024 → Fin 2048 → EReal) (b : Fin 2048 → EReal) (h : Fin 2048) : EReal :=
  (∑ k, x k * W k h) + b h

/-- The gate, held below seven. -/
def gate (y : EReal) : EReal := min y (Ideal.ofBits .f32 0x40E00000#32)

/-- The up value, held between minus seven and seven. -/
def clip (y : EReal) : EReal :=
  min (Ideal.ofBits .f32 0x40E00000#32) (max (Ideal.ofBits .f32 0xC0E00000#32) y)

/-- The gated unit: the gate times its own sigmoid at 1.702, times the up value plus one. -/
def unit (g u : EReal) : EReal :=
  gate g * Ideal.logistic (Ideal.ofBits .f32 0x3FD9DB23#32 * gate g) * (clip u + 1)

/-- One entry of an expert's answer to a row: the gated units of the row's projection (the first 1024 columns are the
    gates, the last 1024 the up values) times the expert's second matrix, plus its second bias. -/
def expert (x : Fin 1024 → EReal) (W : Fin 1024 → Fin 2048 → EReal) (b : Fin 2048 → EReal)
    (D : Fin 1024 → Fin 1024 → EReal) (d : Fin 1024 → EReal) (n : Fin 1024) : EReal :=
  (∑ j : Fin 1024, unit (proj x W b ⟨j.val, by omega⟩) (proj x W b ⟨1024 + j.val, by omega⟩) * D j n) + d n

end Cert.MoeSpec

namespace Cert.KernelIdeal.Moe

open Cert.KernelIdeal Cert.KernelIdeal.Gen
open Idealize.ShloMosaic Idealize.ShloMosaic.TcCoe

/-- What the kernel stores for a block in use is the expert's formula on the block's rows. -/
theorem pay3_apply (x : Vec Ideal S256x1024 .f32) (w : Vec Ideal S1x1024x2048 .f32) (b : Vec Ideal S1x1x2048 .f32)
    (v : Vec Ideal S1x1024x1024 .f32) (d : Vec Ideal S1x1x1024 .f32) (p : Fin 256) (n : Fin 1024) :
    k0_pay3 (F := Ideal) x (k0_pay1 w) b (k0_pay2 v) d (ix2 p n)
      = MoeSpec.expert (fun k => x (ix2 p k)) (fun k h => w (ix3 0 k h)) (fun h => b (ix3 0 0 h))
          (fun k h => v (ix3 0 k h)) (fun h => d (ix3 0 0 h)) n := by
  pointwise [k0_pay3, k0_pay1, k0_pay2, MoeSpec.expert, MoeSpec.unit, MoeSpec.gate, MoeSpec.clip, MoeSpec.proj]

/-- What the kernel stores for a block out of use is zero. -/
theorem pay4_apply (p : Fin 256) (n : Fin 1024) : k0_pay4 (F := Ideal) (ix2 p n) = 0 := by
  pointwise [k0_pay4]

end Cert.KernelIdeal.Moe
-- ==== Proof.MoeRef.lean ====
/- The reference of the routed experts, read at one entry. -/
module

public import proofs.«01_k».proof.Proof.MoePay
public import proofs.«01_k».proof.Proof.Gen.ReferenceIdeal.Read
public import Idealize.ShloMosaic.Lib.Routing.Ops

@[expose] public section

set_option maxRecDepth 16384

noncomputable section

namespace Cert.ReferenceIdeal.Moe

open Cert.ReferenceIdeal Cert.ReferenceIdeal.Read
open Idealize.ShloMosaic Idealize.ShloMosaic.TcCoe

/-- The dimension numbers of a gather of whole matrices, one matrix number for each result matrix. -/
abbrev matDims (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- A gather of whole matrices at an entry: that entry of the matrix whose number is given. -/
theorem mat_apply {N R C B : Nat}
    (wf : GatherDims.WF ⟨3, ![N, R, C]⟩ ⟨2, ![B, 1]⟩ ⟨3, ![B, R, C]⟩ [1, 2] [0] [] [0] [] 1 ![1, R, C])
    {α : Type} (x : (⟨3, ![N, R, C]⟩ : Shape).Idx → α) (idx : IVec ⟨2, ![B, 1]⟩ 32) (b : Fin B) (r : Fin R) (c : Fin C)
    (e : Fin N) (he : (idx (ix2 b (0 : Fin 1))).toInt = e.val) :
    Host.gather (matDims N R C B wf) x idx (ix3 b r c) = x (ix3 e r c) := by
  unfold Host.gather
  refine congrArg x (funext fun a => Fin.ext ?_)
  show (matDims N R C B wf).start (ix3 b r c) idx a + (matDims N R C B wf).batchCoord (ix3 b r c) a
      + (matDims N R C B wf).offCoord (ix3 b r c) a = _
  rw [GatherDims.batchCoord_eq_zero _ _ _ List.not_mem_nil]
  match a with
  | ⟨0, _⟩ =>
    have hm : (0 : Fin 3) ∈ (matDims N R C B wf).startIndexMap := List.mem_singleton.mpr rfl
    show (matDims N R C B wf).start (ix3 b r c) idx 0 + 0 + (matDims N R C B wf).offCoord (ix3 b r c) 0 = e.val
    rw [GatherDims.offCoord_eq_zero _ _ _ (fun h => ((GatherDims.mem_sKept _ _).mp h).1 (List.mem_singleton.mpr rfl))]
    simp only [Nat.add_zero]
    unfold GatherDims.start
    rw [dif_pos hm]
    have hsi : (matDims N R C B wf).siIdx (ix3 b r c) ⟨List.idxOf (0 : Fin 3) (matDims N R C B wf).startIndexMap,
        List.idxOf_lt_length_iff.2 hm⟩ = ix2 b (0 : Fin 1) := by
      funext b'; refine Fin.ext ?_
      match b' with
      | ⟨0, _⟩ => rfl
      | ⟨1, _⟩ => rfl
    rw [hsi, he]
    show min ((e.val : Int)).toNat (N - 1) = e.val
    have := e.isLt
    omega
  | ⟨1, _⟩ =>
    have hm : (1 : Fin 3) ∉ (matDims N R C B wf).startIndexMap := (by decide : (1 : Fin 3) ∉ ([0] : List (Fin 3)))
    show (matDims N R C B wf).start (ix3 b r c) idx 1 + 0 + (matDims N R C B wf).offCoord (ix3 b r c) 1 = r.val
    unfold GatherDims.start
    rw [dif_neg hm, Nat.zero_add]
    rfl
  | ⟨2, _⟩ =>
    have hm : (2 : Fin 3) ∉ (matDims N R C B wf).startIndexMap := (by decide : (2 : Fin 3) ∉ ([0] : List (Fin 3)))
    show (matDims N R C B wf).start (ix3 b r c) idx 2 + 0 + (matDims N R C B wf).offCoord (ix3 b r c) 2 = c.val
    unfold GatherDims.start
    rw [dif_neg hm, Nat.zero_add]
    rfl

/-- A gather of whole rows at an entry: that entry of the row whose number is given. -/
theorem row_apply {N C B : Nat} (d : GatherDims ⟨2, ![N, C]⟩ ⟨2, ![B, 1]⟩ ⟨2, ![B, C]⟩) (hoff : d.offsetDims = [1])
    (hcoll : d.collapsedSliceDims = [0]) (hob : d.operandBatchingDims = []) (hsim : d.startIndexMap = [0])
    (hivd : d.indexVectorDim = 1) (hN : N < 2 ^ 31) {α : Type} (x : (⟨2, ![N, C]⟩ : Shape).Idx → α)
    (idx : IVec ⟨2, ![B, 1]⟩ 32) (b : Fin B) (c : Fin C) (e : Fin N) (he : idx (ix2 b (0 : Fin 1)) = BitVec.ofNat 32 e.val) :
    Host.gather d x idx (ix2 b c) = x (ix2 e c) :=
  Routing.gather_row d hoff hcoll hob hsim hivd x idx b c e he hN

section Read

variable (x0 : (⟨S16512x1024, .f32⟩ : BufTy).Contents (Elt Ideal)) (x1 : (⟨S74240, .i32⟩ : BufTy).Contents (Elt Ideal))
  (x2 : (⟨S290, .i32⟩ : BufTy).Contents (Elt Ideal)) (x3 : (⟨S1, .i32⟩ : BufTy).Contents (Elt Ideal))
  (x4 : (⟨S32x1024x2048, .f32⟩ : BufTy).Contents (Elt Ideal)) (x5 : (⟨S32x2048, .f32⟩ : BufTy).Contents (Elt Ideal))
  (x6 : (⟨S32x1024x1024, .f32⟩ : BufTy).Contents (Elt Ideal)) (x7 : (⟨S32x1024, .f32⟩ : BufTy).Contents (Elt Ideal))

/-- A number that is not negative, as a word, is not below zero. -/
theorem wrap_id (w : BitVec 32) (h : w.toNat < 2 ^ 31) (z : BitVec 32) (hz : z = 0#32) (y : BitVec 32) :
    Scalar.select (IntOp.cmpi .slt w z) y w = w := by
  subst hz
  have h0 : ¬ (w.toInt < (0#32).toInt) := by
    rw [BitVec.toInt_eq_toNat_of_lt (by omega)]
    show ¬ ((w.toNat : Int) < 0)
    omega
  have : IntOp.cmpi .slt w 0#32 = 0#1 := by
    show BitVec.ofBool (w.slt 0#32) = 0#1
    rw [show w.slt 0#32 = false from decide_eq_false h0]
    rfl
  rw [this]; rfl

variable (t : Fin 290) (e : Fin 32) (he : x2 (ix1 t) = BitVec.ofNat 32 e.val)
include he

theorem e_small : (x2 (ix1 t)).toNat < 2 ^ 31 := by
  rw [he, BitVec.toNat_ofNat]; have := e.isLt; omega

theorem v13_at : val_main_v13 (F := Ideal) x2 (ix2 t (0 : Fin 1)) = BitVec.ofNat 32 e.val := by
  rw [val_main_v13_apply, val_main_v12_apply, val_main_v9_apply, show idx_main_v13 (ix2 t (0 : Fin 1)) = ix1 t from by idx_ext]
  exact (wrap_id _ (e_small x2 t e he) _ rfl _).trans he

theorem v13_int : (val_main_v13 (F := Ideal) x2 (ix2 t (0 : Fin 1))).toInt = e.val := by
  have := e.isLt
  rw [v13_at x2 t e he, BitVec.toInt_eq_toNat_of_lt (by rw [BitVec.toNat_ofNat]; omega), BitVec.toNat_ofNat]
  omega

theorem v14_at (k : Fin 1024) (h : Fin 2048) : val_main_v14 (F := Ideal) x2 x4 (ix3 t k h) = x4 (ix3 e k h) :=
  mat_apply _ x4 _ t k h e (v13_int x2 t e he)

theorem v49_at (k : Fin 1024) (h : Fin 1024) : val_main_v49 (F := Ideal) x2 x6 (ix3 t k h) = x6 (ix3 e k h) :=
  mat_apply _ x6 _ t k h e (v13_int x2 t e he)

theorem v22_at (h : Fin 2048) : val_main_v22 (F := Ideal) x2 x5 (ix2 t h) = x5 (ix2 e h) :=
  row_apply _ rfl rfl rfl rfl rfl (by decide) x5 _ t h e (v13_at x2 t e he)

theorem v57_at (h : Fin 1024) : val_main_v57 (F := Ideal) x2 x7 (ix2 t h) = x7 (ix2 e h) :=
  row_apply _ rfl rfl rfl rfl rfl (by decide) x7 _ t h e (v13_at x2 t e he)

/-- Entry `(t, p, n)` of the reference before its last reshape: the formula on the block's row, with the weights of
    the block's expert. -/
theorem v60_at (p : Fin 256) (n : Fin 1024) :
    val_main_v60 (F := Ideal) x0 x1 x2 x4 x5 x6 x7 (ix3 t p n)
      = MoeSpec.expert (fun k => val_main_v7 (F := Ideal) x0 x1 (ix3 t p k)) (fun k h => x4 (ix3 e k h))
          (fun h => x5 (ix2 e h)) (fun k h => x6 (ix3 e k h)) (fun h => x7 (ix2 e h)) n := by
  have h14 := v14_at x2 x4 t e he
  have h22 := v22_at x2 x5 t e he
  have h49 := v49_at x2 x6 t e he
  have h57 := v57_at x2 x7 t e he
  pointwise [val_main_v60, val_main_v59, val_main_v58, val_main_v50, val_main_v42, val_main_v41, val_main_v40, val_main_v39, val_main_v38,
    val_main_v37, val_main_v36, val_main_v35, val_main_v34, val_main_v33, val_main_v32, val_main_v31, val_main_v30, val_main_v29,
    val_main_v28, val_main_v27, val_main_v26, val_main_v25, val_main_v24, val_main_v23, val_main_v15, val_main_call0_v0,
    val_main_call0_v1, val_main_call0_v2, val_main_call0_v3, val_main_call0_v4, val_main_cst, val_main_cst_5, val_main_cst_6,
    val_main_cst_7, val_main_cst_8, val_main_cst_9, val_main_cst_10, h14, h22, h49, h57, MoeSpec.expert, MoeSpec.unit, MoeSpec.gate,
    MoeSpec.clip, MoeSpec.proj, Ideal.logistic]
  rfl

omit he in
/-- Entry `(t, p, n)` of the reference before its last reshape: a block from `n_used` on is zero. -/
theorem v66_at (p : Fin 256) (n : Fin 1024) :
    val_main_v66 (F := Ideal) x0 x1 x2 x3 x4 x5 x6 x7 (ix3 t p n)
      = Scalar.select (IntOp.cmpi .slt (BitVec.ofNat 32 t.val) (x3 (ix1 0)))
          (val_main_v60 (F := Ideal) x0 x1 x2 x4 x5 x6 x7 (ix3 t p n)) (0 : EReal) := by
  pointwise [val_main_v66, val_main_call1_v1, val_main_call1_v2, val_main_v65, val_main_v62, val_main_v61, val_main_v64, val_main_v63, val_main_call1_v0]
  refine congrArg (Scalar.select _ _) ?_
  show val_main_cst_15 (F := Ideal) ix0 = 0
  pointwise [val_main_cst_15]

/-- Entry `(r, n)` of the reference's result. -/
theorem v67_at (p : Fin 256) (n : Fin 1024) (r : Fin 74240) (hr : r.val = t.val * 256 + p.val) :
    val_main_v67 (F := Ideal) x0 x1 x2 x3 x4 x5 x6 x7 (ix2 r n)
      = Scalar.select (IntOp.cmpi .slt (BitVec.ofNat 32 t.val) (x3 (ix1 0)))
          (MoeSpec.expert (fun k => val_main_v6 (F := Ideal) x0 x1 (ix2 r k)) (fun k h => x4 (ix3 e k h))
            (fun h => x5 (ix2 e h)) (fun k h => x6 (ix3 e k h)) (fun h => x7 (ix2 e h)) n) (0 : EReal) := by
  have hp := p.isLt
  have hn := n.isLt
  rw [val_main_v67_apply, show idx_main_v67 (ix2 r n) = ix3 t p n from by
    funext a; refine Fin.ext ?_
    match a with
    | ⟨0, _⟩ => show (r.val * 1024 + n.val) / 262144 = t.val; omega
    | ⟨1, _⟩ => show (r.val * 1024 + n.val) / 1024 % 256 = p.val; omega
    | ⟨2, _⟩ => show (r.val * 1024 + n.val) % 1024 = n.val; omega, v66_at, v60_at x0 x1 x2 x4 x5 x6 x7 t e he]
  refine congrArg (fun f => Scalar.select _ (MoeSpec.expert f _ _ _ _ n) (0 : EReal)) (funext fun k => ?_)
  have hk := k.isLt
  rw [val_main_v7_apply]
  refine congrArg _ (funext fun a => Fin.ext ?_)
  match a with
  | ⟨0, _⟩ => show ((t.val * 256 + p.val) * 1024 + k.val) / 1024 = r.val; omega
  | ⟨1, _⟩ => show ((t.val * 256 + p.val) * 1024 + k.val) % 1024 = k.val; omega

end Read

end Cert.ReferenceIdeal.Moe
-- ==== Proof.MoeValue.lean ====
/- The routed experts' result array: block by block it is the reference's. -/
module

public import proofs.«01_k».proof.Proof.MoeRun
public import proofs.«01_k».proof.Proof.MoeRef
public import Idealize.ShloMosaic.Lib.Pipeline.Value

@[expose] public section

set_option maxRecDepth 16384

noncomputable section

namespace Cert.KernelIdeal.Moe

open Cert.KernelIdeal Cert.KernelIdeal.Gen
open Idealize.ShloMosaic Idealize.ShloMosaic.TcCoe Idealize.SL.Sem
open Pipeline

section Entry
variable {F : FTy → Type} [FloatOps F]
variable (m : (ℓ : Loc nD τ sig) → Buf (Elt F) ℓ)

/-! ## The arrays the host operations leave -/

/-- The rows each block reads: the rows of the first argument, by the second. -/
theorem V_v6 (c : Dev nD) : V m c main_v6
    = ReferenceIdeal.Read.val_main_v6 (F := F) (m ((c : Thread nD τ).loc main_arg0)) (m ((c : Thread nD τ).loc main_arg1)) := by
  unfold V; after_results; rfl

/-- The first bias with a unit axis. -/
theorem V_v7 (c : Dev nD) : V m c main_v7
    = shapeCast S32x1x2048 (m ((c : Thread nD τ).loc main_arg5)) shapeCasts_S32x2048_S32x1x2048 := by
  unfold V; after_results; rfl

/-- The second bias with a unit axis. -/
theorem V_v8 (c : Dev nD) : V m c main_v8
    = shapeCast S32x1x1024 (m ((c : Thread nD τ).loc main_arg7)) shapeCasts_S32x1024_S32x1x1024 := by
  unfold V; after_results; rfl

end Entry

section Blocks
variable (m : (ℓ : Loc nD τ sig) → Buf (Elt Ideal) ℓ) (hO : Ok m) (c : Dev nD)

/-- The reference's result over the entry arguments. -/
abbrev want : S74240x1024.Idx → Ideal .f32 :=
  ReferenceIdeal.Read.val_main_v67 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem Npts : grid0.N = 290 := by decide

/-- The tables are the arguments. -/
theorem tE_eq : tE m = m ((c : Thread nD τ).loc main_arg2) := by
  obtain rfl : c = 0 := Subsingleton.elim _ _
  exact V_arg m 0 main_arg2 (by decide)
theorem tN_eq : tN m = m ((c : Thread nD τ).loc main_arg3) := by
  obtain rfl : c = 0 := Subsingleton.elim _ _
  exact V_arg m 0 main_arg3 (by decide)

/-- The expert of a point's block. -/
abbrev ex (t : Fin (cfgM m hO).N) : ℕ := (word (tE m) ((grid0.coords t) 0).val ((grid0.coords t) 0).isLt).toNat

/-- Every block's expert is below 32. -/
theorem ex_lt (t : Fin (cfgM m hO).N) : ex m hO t < 32 := by
  have h := (hO.1 (grid0.coords t)).choose 0
  have e : cc0_transform_1 k0_off1_inb numel1_S1 (tbl m) (grid0.coords t) 0 = ex m hO t := congrFun (ix_eq m (grid0.coords t)) 0
  have h' : (cc0_transform_1 k0_off1_inb numel1_S1 (tbl m) (grid0.coords t) 0 + 1) * 1 ≤ 32 := h
  omega

theorem idx0 (i : grid0.Coords) : cc0_transform_0 i = ![(i 0).val, 0] := by
  have h : (i 0).val < 290 := (i 0).isLt
  show ![(BitVec.ofNat 32 (i 0).val).toNat, (0#32).toNat] = _
  rw [BitVec.toNat_ofNat, Nat.mod_eq_of_lt (by omega)]; rfl

/-- An array read through a block of 256 of its rows. -/
theorem block2 {N : Nat} (v : (⟨2, ![N, 1024]⟩ : Shape).Idx → Ideal .f32) (x : Fin 2 → ℕ)
    (hx : ∀ a, (x a + 1) * S256x1024.size a ≤ (⟨2, ![N, 1024]⟩ : Shape).size a) (b : ℕ) (hb : x = ![b, 0]) (p : Fin 256)
    (k : Fin 1024) (r : Fin N) (hr : r.val = b * 256 + p.val) :
    v ((Rect.block (s := ⟨2, ![N, 1024]⟩) S256x1024.size x hx).emb (ix2 p k)) = v (ix2 r k) := by
  subst hb
  refine congrArg v (funext fun a => Fin.ext ?_)
  match a with
  | ⟨0, _⟩ => show b * 256 + 1 * p.val = r.val; omega
  | ⟨1, _⟩ => show 0 * 1024 + 1 * k.val = k.val; omega

/-- An array read through one of its matrices. -/
theorem block3 {N R C : Nat} (v : (⟨3, ![N, R, C]⟩ : Shape).Idx → Ideal .f32) (x : Fin 3 → ℕ)
    (hx : ∀ a, (x a + 1) * (⟨3, ![1, R, C]⟩ : Shape).size a ≤ (⟨3, ![N, R, C]⟩ : Shape).size a) (e : Fin N) (hb : x = ![e.val, 0, 0])
    (k : Fin R) (h : Fin C) :
    v ((Rect.block (s := ⟨3, ![N, R, C]⟩) (⟨3, ![1, R, C]⟩ : Shape).size x hx).emb (ix3 (0 : Fin 1) k h)) = v (ix3 e k h) := by
  subst hb
  refine congrArg v (funext fun a => Fin.ext ?_)
  match a with
  | ⟨0, _⟩ => show e.val * 1 + 0 * 1 = e.val; omega
  | ⟨1, _⟩ => show 0 * R + 1 * k.val = k.val; omega
  | ⟨2, _⟩ => show 0 * C + 1 * h.val = h.val; omega

theorem idx5 (i : grid0.Coords) : cc0_transform_5 i = ![(i 0).val, 0] := by
  have h : (i 0).val < 290 := (i 0).isLt
  show ![(BitVec.ofNat 32 (i 0).val).toNat, (0#32).toNat] = _
  rw [BitVec.toNat_ofNat, Nat.mod_eq_of_lt (by omega)]; rfl

/-- Where a block of 256 rows puts its entry. -/
theorem place2 {N : Nat} (x : Fin 2 → ℕ) (hx : ∀ a, (x a + 1) * S256x1024.size a ≤ (⟨2, ![N, 1024]⟩ : Shape).size a) (b : ℕ)
    (hb : x = ![b, 0]) (p : Fin 256) (k : Fin 1024) (r : Fin N) (hr : r.val = b * 256 + p.val) :
    (Rect.block (s := ⟨2, ![N, 1024]⟩) S256x1024.size x hx).emb (ix2 p k) = ix2 r k := by
  subst hb
  refine funext fun a => Fin.ext ?_
  match a with
  | ⟨0, _⟩ => show b * 256 + 1 * p.val = r.val; omega
  | ⟨1, _⟩ => show 0 * 1024 + 1 * k.val = k.val; omega

theorem coord_val (t : Fin (cfgM m hO).N) : ((grid0.coords t) 0).val = t.val := coord t

theorem iblk0_at (t : Fin (cfgM m hO).N) (p : Fin 256) (k : Fin 1024) (r : Fin 74240) (hr : r.val = t.val * 256 + p.val) :
    iblk m hO c 0 t (ix2 p k : S256x1024.Idx) = V m c main_v6 (ix2 r k) :=
  block2 (V m c main_v6) _ (hinb0 (tbl m) hO 0 (grid0.coords t)) t.val
    ((idx0 (grid0.coords t)).trans (by rw [coord_val m hO t])) p k r hr

/-- The formula over equal rows, matrices and biases. -/
theorem expert_congr {x x' : Fin 1024 → EReal} {W W' : Fin 1024 → Fin 2048 → EReal} {b b' : Fin 2048 → EReal}
    {D D' : Fin 1024 → Fin 1024 → EReal} {d d' : Fin 1024 → EReal} (hx : ∀ k, x k = x' k) (hW : ∀ k h, W k h = W' k h)
    (hb : ∀ h, b h = b' h) (hD : ∀ k h, D k h = D' k h) (hd : ∀ h, d h = d' h) (n : Fin 1024) :
    MoeSpec.expert x W b D d n = MoeSpec.expert x' W' b' D' d' n := by
  obtain rfl : x = x' := funext hx
  obtain rfl : W = W' := funext fun k => funext (hW k)
  obtain rfl : b = b' := funext hb
  obtain rfl : D = D' := funext fun k => funext (hD k)
  obtain rfl : d = d' := funext hd
  rfl

variable (t : Fin (cfgM m hO).N) (e : Fin 32) (he : e.val = ex m hO t)
include he

theorem ix_e : ix0 (tbl m) 1 (grid0.coords t) = ![e.val, 0, 0] := (ix_eq m _).trans (by rw [he])

theorem iblk1_at (k : Fin 1024) (h : Fin 2048) : iblk m hO c 1 t (ix3 0 k h : S1x1024x2048.Idx) = V m c main_arg4 (ix3 e k h) :=
  block3 (V m c main_arg4) _ (hinb0 (tbl m) hO 1 (grid0.coords t)) e (ix_e m hO t e he) k h
theorem iblk2_at (k : Fin 1) (h : Fin 2048) : iblk m hO c 2 t (ix3 0 k h : S1x1x2048.Idx) = V m c main_v7 (ix3 e k h) :=
  block3 (V m c main_v7) _ (hinb0 (tbl m) hO 2 (grid0.coords t)) e (ix_e m hO t e he) k h
theorem iblk3_at (k : Fin 1024) (h : Fin 1024) : iblk m hO c 3 t (ix3 0 k h : S1x1024x1024.Idx) = V m c main_arg6 (ix3 e k h) :=
  block3 (V m c main_arg6) _ (hinb0 (tbl m) hO 3 (grid0.coords t)) e (ix_e m hO t e he) k h
theorem iblk4_at (k : Fin 1) (h : Fin 1024) : iblk m hO c 4 t (ix3 0 k h : S1x1x1024.Idx) = V m c main_v8 (ix3 e k h) :=
  block3 (V m c main_v8) _ (hinb0 (tbl m) hO 4 (grid0.coords t)) e (ix_e m hO t e he) k h

omit he
theorem v7_at (e : Fin 32) (h : Fin 2048) : V m c main_v7 (ix3 e 0 h) = m ((c : Thread nD τ).loc main_arg5) (ix2 e h) := by
  rw [V_v7]; pointwise []
theorem v8_at (e : Fin 32) (h : Fin 1024) : V m c main_v8 (ix3 e 0 h) = m ((c : Thread nD τ).loc main_arg7) (ix2 e h) := by
  rw [V_v8]; pointwise []

theorem used_word : ∀ a : BitVec 1, Scalar.cmpi .ne (Scalar.extui a : BitVec 32) 0#32 = 1#1 ↔ a = 1#1 := by decide

theorem bit_zero : ∀ a : BitVec 1, ¬ a = 1#1 → a = 0#1 := by decide

/-- Whether a block is in use, as the reference asks it. -/
theorem used_iff : Used (F := Ideal) (tN m) (grid0.coords t)
    ↔ IntOp.cmpi .slt (BitVec.ofNat 32 t.val) ((m ((c : Thread nD τ).loc main_arg3)) (ix1 0)) = 1#1 := by
  rw [← tN_eq m c, ← coord_val m hO t]
  have hb : blocksUsed (F := Ideal) (tN m) = tN m (ix1 0) :=
    congrArg (tN m) (funext fun a => by obtain rfl : a = 0 := Subsingleton.elim (α := Fin 1) a 0; exact Subsingleton.elim (α := Fin 1) _ _)
  show k0_cond2 (grid0.coords t) (blocksUsed (F := Ideal) (tN m)) = 1#1 ↔ _
  rw [hb]
  exact used_word _

include he in
/-- What a point stores, at an entry, is the reference there. -/
theorem rows_at (p : Fin 256) (n : Fin 1024) (r : Fin 74240) (hr : r.val = t.val * 256 + p.val) :
    rows m hO c t (ix2 p n : S256x1024.Idx) = want m c (ix2 r n) := by
  have ht : t.val < 290 := lt_of_lt_of_eq t.isLt Npts
  have hx2 : (m ((c : Thread nD τ).loc main_arg2)) (ix1 ⟨t.val, ht⟩) = BitVec.ofNat 32 e.val := by
    rw [← tE_eq m c, he, BitVec.ofNat_toNat, BitVec.setWidth_eq]
    refine congrArg (tE m) (funext fun a => Fin.ext ?_)
    match a with
    | ⟨0, _⟩ => exact (coord_val m hO t).symm
  refine Eq.trans ?_ (ReferenceIdeal.Moe.v67_at _ _ _ _ _ _ _ _ ⟨t.val, ht⟩ e hx2 p n r hr).symm
  by_cases h : Used (F := Ideal) (tN m) (grid0.coords t)
  · rw [rows_used m hO c t h, (used_iff m hO c t).1 h]
    refine (pay3_apply _ _ _ _ _ p n).trans ?_
    exact expert_congr
      (fun k => (iblk0_at m hO c t p k r hr).trans (congrFun (V_v6 m c) _))
      (fun k h => (iblk1_at m hO c t e he k h).trans (congrFun (V_arg m c main_arg4 (by decide)) _))
      (fun h => (iblk2_at m hO c t e he 0 h).trans (v7_at m c e h))
      (fun k h => (iblk3_at m hO c t e he k h).trans (congrFun (V_arg m c main_arg6 (by decide)) _))
      (fun h => (iblk4_at m hO c t e he 0 h).trans (v8_at m c e h)) n
  · rw [rows_unused m hO c t h, bit_zero _ (fun e' => h ((used_iff m hO c t).2 e'))]
    exact pay4_apply p n

omit he in
theorem emb5 (t : Fin (cfgM m hO).N) (p : Fin 256) (n : Fin 1024) (r : Fin 74240) (hr : r.val = t.val * 256 + p.val) :
    (((cfgM m hO).win 5).blk t).view.emb (ix2 p n : S256x1024.Idx) = (ix2 r n : S74240x1024.Idx) :=
  place2 _ (hinb0 (tbl m) hO 5 (grid0.coords t)) t.val ((idx5 (grid0.coords t)).trans (by rw [coord_val m hO t])) p n r hr

omit he in
/-- Every point writes its block back. -/
theorem flush5 (t : Fin (cfgM m hO).N) : ((cfgM m hO).win 5).flush t = true := by
  show Window.flushOf grid0 true cc0_transform_5 t = true
  unfold Window.flushOf
  have ht : t.val < grid0.N := t.isLt
  by_cases h : t.val + 1 = grid0.N
  · simp only [h, decide_true, Bool.true_and, Bool.true_or]
  · have h' : t.val + 1 < grid0.N := by omega
    have : ∃ h : t.val + 1 < grid0.N, cc0_transform_5 (grid0.coords ⟨t.val + 1, h⟩) ≠ cc0_transform_5 (grid0.coords t) := by
      refine ⟨h', fun e => ?_⟩
      have e0 := congrFun e 0
      rw [idx5, idx5] at e0
      have e1 : ((grid0.coords ⟨t.val + 1, h'⟩) 0).val = ((grid0.coords t) 0).val := e0
      rw [coord, coord] at e1
      exact absurd e1 (Nat.succ_ne_self _)
    rw [decide_eq_true this, Bool.or_true, Bool.and_true]

omit he in
/-- What a point writes back is its block of the reference. -/
theorem flushed_eq (t : Fin (cfgM m hO).N) :
    (dats m hO 0 c).flushed 5 t = (((cfgM m hO).win 5).blk t).view.read (Elt Ideal) (want m c) := by
  show ((cfgM m hO).win 5).cut (grid0.coords t) ((dats m hO 0 c).after 5 t) = _
  rw [after0_5]
  have ht : t.val < 290 := lt_of_lt_of_eq t.isLt Npts
  funext j
  have key : ∀ j : S256x1024.Idx, rows m hO c t j = want m c ((((cfgM m hO).win 5).blk t).view.emb j) := fun j => by
    have hp : (j 0).val < 256 := (j 0).isLt
    rw [eq_ix2 j]
    refine (rows_at m hO c t ⟨ex m hO t, ex_lt m hO t⟩ rfl (j 0) (j 1) ⟨t.val * 256 + (j 0).val, by omega⟩ rfl).trans ?_
    exact congrArg (want m c) (emb5 m hO t (j 0) (j 1) ⟨t.val * 256 + (j 0).val, by omega⟩ rfl).symm
  exact key j

omit he in
/-- A row of the array is in the block of its 256 rows. -/
theorem mem5 (t : Fin (cfgM m hO).N) (p : Fin 256) (n : Fin 1024) (r : Fin 74240) (hr : r.val = t.val * 256 + p.val) :
    (ix2 r n : S74240x1024.Idx) ∈ (((cfgM m hO).win 5).blk t).view.set :=
  emb5 m hO t p n r hr ▸ View.emb_mem_set (((cfgM m hO).win 5).blk t).view (ix2 p n : S256x1024.Idx)

omit he in
theorem point_of (b : ℕ) (h : b < 290) : ∃ t : Fin (cfgM m hO).N, t.val = b :=
  ⟨⟨b, lt_of_lt_of_eq h Npts.symm⟩, rfl⟩

omit he in
/-- The blocks cover the array. -/
theorem cover5 (i : S74240x1024.Idx) :
    ∃ t : Fin (cfgM m hO).N, ((cfgM m hO).win 5).flush t = true ∧ i ∈ (((cfgM m hO).win 5).blk t).view.set := by
  have h0 : (i 0).val < 74240 := (i 0).isLt
  obtain ⟨t, ht⟩ := point_of m hO ((i 0).val / 256) (by omega)
  refine ⟨t, flush5 m hO t, ?_⟩
  rw [eq_ix2 i]
  exact mem5 m hO t ⟨(i 0).val % 256, by omega⟩ (i 1) (i 0) (by rw [ht]; show (i 0).val = (i 0).val / 256 * 256 + (i 0).val % 256; omega)

omit he in
/-- So the result array ends holding the reference. -/
theorem final5 : (dats m hO 0 c).arrAt 5 (cfgM m hO).N = want m c :=
  (dats m hO 0 c).arrAt_eq_of_cover 5 (want m c) (fun t _ => flushed_eq m hO c t) (cover5 m hO)

end Blocks

end Cert.KernelIdeal.Moe
-- ==== Proof.MoeClaims.lean ====
/- The precondition read, the frame of the routed experts' kernel, and its value claim. -/
module

public import proofs.«01_k».proof.Defs
public import proofs.«01_k».proof.Proof.MoeValue
public import proofs.«01_k».proof.Proof.Gen.ReferenceIdeal.Run
public import proofs.«01_k».proof.Proof.Gen.Kernel
public import proofs.«01_k».proof.Proof.Gen.Pre_experts_exist
public import Idealize.ShloMosaic.Lib.Quiescent

@[expose] public section

set_option maxRecDepth 16384

noncomputable section

namespace Cert.KernelIdeal.Moe

open Cert.KernelIdeal Cert.KernelIdeal.Gen
open Idealize.ShloMosaic Idealize.ShloMosaic.TcCoe Idealize.SL.Sem

section Frame
variable {F : FTy → Type} [FloatOps F]
variable (m : (ℓ : Loc nD τ sig) → Buf (Elt F) ℓ) (ρ : Dev nD → PrngReg)

theorem bit_and : ∀ a b : Bool, IntOp.andi (BitVec.ofBool a) (BitVec.ofBool b) = 1#1 → a = true ∧ b = true := by decide

/-- A word that is, signed, from 0 on and below 32 is below 32. -/
theorem lt_of_signed (w : BitVec 32) (h : IntOp.andi (IntOp.cmpi .sge w 0#32) (IntOp.cmpi .slt w 32#32) = 1#1) : w.toNat < 32 := by
  have h' := bit_and _ _ (show IntOp.andi (BitVec.ofBool (BitVec.sle 0#32 w)) (BitVec.ofBool (w.slt 32#32)) = 1#1 from h)
  have h1 : (0#32).toInt ≤ w.toInt := of_decide_eq_true h'.1
  have h2 : w.toInt < (32#32).toInt := of_decide_eq_true h'.2
  have e0 : (0#32).toInt = 0 := by decide
  have e1 : (32#32).toInt = 32 := by decide
  rw [e0] at h1; rw [e1] at h2
  have hw := w.isLt
  rw [BitVec.toInt_eq_toNat_cond] at h1 h2
  split at h1 <;> omega

/-- Where every block's expert is below 32, the blocks the tables choose lie inside the arrays. -/
theorem ok_of (h : ∀ j : S290.Idx, ((m (((0 : Dev nD) : Thread nD τ).loc main_arg2)) j : BitVec 32).toNat < 32) : Ok m := by
  have hw : ∀ i : grid0.Coords, (word (tE m) (i 0).val (i 0).isLt).toNat < 32 := fun i => by
    have e : tE m = m (((0 : Dev nD) : Thread nD τ).loc main_arg2) := V_arg m 0 main_arg2 (by decide)
    rw [e]; exact h _
  have key : ∀ (R C : ℕ) (x : Fin 3 → ℕ) (e : ℕ), x = ![e, 0, 0] → e < 32 →
      ∀ a, (x a + 1) * (⟨3, ![1, R, C]⟩ : Shape).size a ≤ (⟨3, ![32, R, C]⟩ : Shape).size a := by
    intro R C x e hx he a; subst hx
    match a with
    | ⟨0, _⟩ => show (e + 1) * 1 ≤ 32; omega
    | ⟨1, _⟩ => show (0 + 1) * R ≤ R; omega
    | ⟨2, _⟩ => show (0 + 1) * C ≤ C; omega
  exact ⟨fun i => ⟨key 1024 2048 _ _ (ix_eq m i) (hw i), .inl rfl⟩, fun i => ⟨key 1 2048 _ _ (ix_eq m i) (hw i), .inl rfl⟩,
    fun i => ⟨key 1024 1024 _ _ (ix_eq m i) (hw i), .inl rfl⟩, fun i => ⟨key 1 1024 _ _ (ix_eq m i) (hw i), .inl rfl⟩⟩

/-- An argument array, unchanged at the end of the run. -/
abbrev Same (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- The run, read: the result array as the blocks leave it, the arguments unchanged, the semaphores at zero. -/
theorem run_read (hO : Ok m) : θ_run defs (onTc (τ := τ) (main (F := F))) ⟨m, fun _ => 0, ρ⟩ fun r =>
    (∀ c : Dev nD, r.2.mem ((c.tc : Thread nD τ).loc main_v9) = (dats m hO 0 c).arrAt 5 (cfgM m hO).N ∧ Same m r c)
      ∧ r.2.sem = fun _ => 0 :=
  (θ_run defs _ _).mono (fun r h => ⟨fun c => by
    have rest : ∀ b ∈ Pipeline.restRefs sig spec0, r.2.mem ((c.tc : Thread nD τ).loc b) = V m c b := (h.1 c).2
    have a4 : r.2.mem ((c.tc : Thread nD τ).loc main_arg4) = V m c main_arg4 :=
      ((h.1 c).1 1).trans (((dats m hO 0 c).arrAt_in 1 rfl _).trans (A_eq m hO c 1))
    have a6 : r.2.mem ((c.tc : Thread nD τ).loc main_arg6) = V m c main_arg6 :=
      ((h.1 c).1 3).trans (((dats m hO 0 c).arrAt_in 3 rfl _).trans (A_eq m hO c 3))
    exact ⟨(h.1 c).1 5,
      (rest main_arg0 (by decide)).trans (V_arg m c main_arg0 (by decide)),
      (rest main_arg1 (by decide)).trans (V_arg m c main_arg1 (by decide)),
      (rest main_arg2 (by decide)).trans (V_arg m c main_arg2 (by decide)),
      (rest main_arg3 (by decide)).trans (V_arg m c main_arg3 (by decide)),
      a4.trans (V_arg m c main_arg4 (by decide)),
      (rest main_arg5 (by decide)).trans (V_arg m c main_arg5 (by decide)),
      a6.trans (V_arg m c main_arg6 (by decide)),
      (rest main_arg7 (by decide)).trans (V_arg m c main_arg7 (by decide))⟩, h.2⟩) (run_main m ρ hO)

/-- The frame alone. -/
theorem run_same (hO : Ok m) : θ_run defs (onTc (τ := τ) (main (F := F))) ⟨m, fun _ => 0, ρ⟩ fun r =>
    (∀ c : Dev nD, Same m r c) ∧ r.2.sem = fun _ => 0 :=
  (θ_run defs _ _).mono (fun r h => ⟨fun c => (h.1 c).2, h.2⟩) (run_read m ρ hO)

end Frame

end Cert.KernelIdeal.Moe

namespace Cert.Proof

open Idealize.ShloMosaic Idealize.SL.Sem

theorem pre_ideal (m : (ℓ : Loc Cert.KernelIdeal.nD Cert.KernelIdeal.τ Cert.KernelIdeal.sig) → Buf (Elt Ideal) ℓ)
    (h : Cert.Pre_KernelIdeal m) : Cert.KernelIdeal.Moe.Ok m :=
  Cert.KernelIdeal.Moe.ok_of m fun j => Cert.KernelIdeal.Moe.lt_of_signed _ (congrFun (h 0) j)

theorem frame_ideal : Cert.quiescent_KernelIdeal := fun m g hp => Cert.KernelIdeal.Moe.run_same m g (pre_ideal m hp)

theorem frame_reference : Cert.quiescent_ReferenceIdeal := fun m g _ =>
  (θ_run Cert.ReferenceIdeal.defs _ _).mono (fun r h => ⟨fun c => (h c).2, sem_eq_zero_of_no_sems rfl _⟩)
    (Cert.ReferenceIdeal.Value.run m g)

theorem frame_reference_pre : Cert.quiescent_ReferenceIdeal_pre_experts_exist := fun m g _ => frame_reference m g trivial

/-- The kernel's result is the reference's. -/
theorem experts : Cert.algebraic_KernelIdeal_ReferenceIdeal := fun m g m' g' hp hag => by
  refine ⟨fun c => Cert.KernelIdeal.Moe.want m c, ?_, ?_⟩
  · exact (θ_run Cert.KernelIdeal.defs _ _).mono
      (fun r h c => ⟨(h.1 c).1.trans (Cert.KernelIdeal.Moe.final5 m (pre_ideal m hp) c), (h.1 c).2⟩)
      (Cert.KernelIdeal.Moe.run_read m g (pre_ideal m hp))
  · refine (θ_run Cert.ReferenceIdeal.defs _ _).mono (fun r h c => ⟨(h c).1.trans ?_, (h c).2⟩) (Cert.ReferenceIdeal.Value.run m' g')
    obtain ⟨e0, e1, e2, e3, e4, e5, e6, e7⟩ := hag c
    rw [Cert.ReferenceIdeal.Read.val_main_v67_eq, e0, e1, e2, e3, e4, e5, e6, e7]

end Cert.Proof
-- ==== Proof.MoeBits.lean ====
/- The kernel at the machine's floats: its text is the idealized program's, so the same run proves its frame. -/
module

public import proofs.«01_k».proof.Defs
public import proofs.«01_k».proof.Proof.MoeClaims
public import proofs.«01_k».proof.Proof.Gen.ReferenceIdeal.Run
public import proofs.«01_k».proof.Proof.Gen.Kernel
public import proofs.«01_k».proof.Proof.Gen.Pre_experts_exist
public import Idealize.ShloMosaic.Lib.Quiescent

@[expose] public section

set_option maxRecDepth 16384

noncomputable section

namespace Cert.Proof

open Idealize.ShloMosaic Idealize.SL.Sem

open Cert

set_option maxHeartbeats 2000000 in
/-- The two programs' kernel bodies are the same text. -/
theorem body_eq : @Cert.Kernel.cc0_moe_experts Bits _ _ = @Cert.KernelIdeal.cc0_moe_experts Bits _ _ := by
  unfold Kernel.cc0_moe_experts KernelIdeal.cc0_moe_experts; rfl

set_option maxHeartbeats 2000000 in
/-- So are their main functions. -/
theorem main_eq : @Cert.Kernel.main Bits _ _ = @Cert.KernelIdeal.main Bits _ _ := by
  unfold Kernel.main KernelIdeal.main; rfl

set_option maxHeartbeats 2000000 in
theorem defs₀_eq : @Cert.Kernel.defs₀ Bits _ _ = @Cert.KernelIdeal.defs₀ Bits _ _ := by
  unfold Kernel.defs₀ KernelIdeal.defs₀
  rw [body_eq]
  refine congrArg Defs.onTc (funext fun l => funext fun x => ?_)
  match l, x with
  | 0, (t, s) => rfl

set_option maxHeartbeats 2000000 in
/-- And the functions their labels run. -/
theorem defs_eq : @Cert.Kernel.defs Bits _ _ = @Cert.KernelIdeal.defs Bits _ _ := by
  unfold Kernel.defs KernelIdeal.defs
  rw [defs₀_eq]
  rfl

set_option maxHeartbeats 4000000 in
/-- The frame of the kernel at the machine's floats. -/
theorem frame_bits : Cert.quiescent_Kernel := fun m g hp => by
  have hO := Cert.KernelIdeal.Moe.ok_of (F := Bits) m fun j => Cert.KernelIdeal.Moe.lt_of_signed _ (congrFun (hp 0) j)
  have h := Cert.KernelIdeal.Moe.run_same (F := Bits) m g hO
  rw [main_eq, defs_eq]
  exact h

end Cert.Proof
-- ==== Proof.Norm.lean ====
/- A row over the root of its mean square. -/
module

public import Idealize.ShloMosaic.Lib.Pointwise

@[expose] public section

noncomputable section

namespace Cert.Norm

open Idealize.ShloMosaic

/-- One entry of a normed row: the entry over the root of the row's mean square, times its weight. -/
def norm (y g : Fin 1024 → EReal) (n : Fin 1024) : EReal :=
  y n * Ideal.rsqrt (Ideal.div (∑ k, y k * y k) (Ideal.ofBits .f32 0x44800000#32) + Ideal.ofBits .f32 0x3727C5AC#32) * g n

/-- The norm of equal rows at equal weights. -/
theorem norm_congr {y y' g g' : Fin 1024 → EReal} (hy : ∀ k, y k = y' k) (hg : ∀ k, g k = g' k) (n : Fin 1024) :
    norm y g n = norm y' g' n := by
  obtain rfl : y = y' := funext hy
  obtain rfl : g = g' := funext hg
  rfl

end Cert.Norm
-- ==== Proof.InProjPay.lean ====
/- The projection kernel's arithmetic read at an entry. -/
module

public import proofs.«01_k».proof.Proof.Gen.Kernel2Ideal.Skeleton
public import proofs.«01_k».proof.Proof.Norm
public import Idealize.ShloMosaic.Lib.Pointwise
public import Idealize.ShloMosaic.Lib.ValueIdxCore

@[expose] public section

set_option maxRecDepth 16384

noncomputable section

namespace Cert.Kernel2Ideal.InProj

open Cert.Kernel2Ideal Cert.Kernel2Ideal.Gen
open Idealize.ShloMosaic Idealize.ShloMosaic.TcCoe

/-- The product of a row and a column. -/
abbrev dot (y w : Fin 1024 → EReal) : EReal := ∑ k, y k * w k

/-- A head's halves turned: an entry times its cosine plus the other half's entry times its signed sine. -/
abbrev turn (y : Fin 128 → EReal) (c s : EReal) (l : Fin 128) : EReal :=
  y l * c + (if l.val % 64 < 32 then y ⟨(l.val + 32) % 128, by omega⟩ else y ⟨(l.val + 96) % 128, by omega⟩) * s

theorem pay5_apply (x : Vec Ideal S512x1024 .f32) (g : Vec Ideal S1x1024 .f32) (p : Fin 512) (k : Fin 1024) :
    k0_pay5 (F := Ideal) x g (ix2 p k) = Norm.norm (fun k => x (ix2 p k)) (fun k => g (ix2 0 k)) k := by
  pointwise [k0_pay5, Norm.norm]

section
variable (y : Vec Ideal S512x1024 .bf16) (w : Vec Ideal S1024x512 .bf16) (w' : Vec Ideal S1024x512 .bf16) (p : Fin 512) (n : Fin 512)

theorem pay19_apply : k0_pay19 (F := Ideal) y w (ix2 p n) = dot (fun k => y (ix2 p k)) (fun k => w (ix2 k n)) := by
  pointwise [k0_pay19]
theorem pay9_apply : k0_pay9 (F := Ideal) y w (ix2 p n) = dot (fun k => y (ix2 p k)) (fun k => w (ix2 k n)) := by
  pointwise [k0_pay9]
theorem pay10_apply : k0_pay10 (F := Ideal) y w (ix2 p n) = dot (fun k => y (ix2 p k)) (fun k => w (ix2 k n)) := by
  pointwise [k0_pay10]
theorem pay54_apply : k0_pay54 (F := Ideal) y w w' (ix2 p n)
    = dot (fun k => y (ix2 p k)) (fun k => w (ix2 k n)) * Ideal.logistic (dot (fun k => y (ix2 p k)) (fun k => w' (ix2 k n))) := by
  pointwise [k0_pay54]
theorem pay55_apply : k0_pay55 (F := Ideal) y w (ix2 p n)
    = dot (fun k => y (ix2 p k)) (fun k => w (ix2 k n)) * Ideal.ofBits .f32 0x3DB504F3#32 := by
  pointwise [k0_pay55]
theorem pay56_apply : k0_pay56 (F := Ideal) y w (ix2 p n) = Ideal.logistic (dot (fun k => y (ix2 p k)) (fun k => w (ix2 k n))) := by
  pointwise [k0_pay56]
theorem pay57_apply : k0_pay57 (F := Ideal) y w (ix2 p n) = Ideal.logistic (dot (fun k => y (ix2 p k)) (fun k => w (ix2 k n))) := by
  pointwise [k0_pay57]
theorem pay1_apply : k0_pay1 (F := Ideal) y w (ix2 p n) = Ideal.logistic (dot (fun k => y (ix2 p k)) (fun k => w (ix2 k n))) := by
  pointwise [k0_pay1]
theorem pay2_apply : k0_pay2 (F := Ideal) y w (ix2 p n) = Ideal.logistic (dot (fun k => y (ix2 p k)) (fun k => w (ix2 k n))) := by
  pointwise [k0_pay2]
theorem pay3_apply : k0_pay3 (F := Ideal) y w (ix2 p n) = Ideal.logistic (dot (fun k => y (ix2 p k)) (fun k => w (ix2 k n))) := by
  pointwise [k0_pay3]
theorem pay4_apply : k0_pay4 (F := Ideal) y w (ix2 p n) = Ideal.logistic (dot (fun k => y (ix2 p k)) (fun k => w (ix2 k n))) := by
  pointwise [k0_pay4]
end

/-- The lanes of a head's first half. -/
theorem mask_apply (p : Fin 512) (l : Fin 128) : k0_pay8 (ix2 p l) = if l.val % 64 < 32 then 1#1 else 0#1 := by
  pointwise [k0_pay8]
  clear p
  revert l
  decide +kernel

/-- A rotation of the lanes by 96 places reads 32 lanes on. -/
theorem rot96 (x : Vec Ideal S512x128 .f32) (p : Fin 512) (l : Fin 128) :
    dynamicRotate 1 96#32 none x rotates_S512x128_d1 (ix2 p l) = x (ix2 p ⟨(l.val + 32) % 128, by omega⟩) := by
  pointwise []
  exact congrArg (fun k => x (ix2 p k)) (Fin.ext (by show (l.val + 128 - 96) % 128 = (l.val + 32) % 128; omega))

/-- A rotation of the lanes by 32 places reads 32 lanes back. -/
theorem rot32 (x : Vec Ideal S512x128 .f32) (p : Fin 512) (l : Fin 128) :
    dynamicRotate 1 32#32 none x rotates_S512x128_d1 (ix2 p l) = x (ix2 p ⟨(l.val + 96) % 128, by omega⟩) := by
  pointwise []
  exact congrArg (fun k => x (ix2 p k)) (Fin.ext (by show (l.val + 128 - 32) % 128 = (l.val + 96) % 128; omega))

/-- The kernel's turn of a pair of heads' halves. -/
def rope (c s x : FVec Ideal S512x128 .f32) : FVec Ideal S512x128 .f32 :=
  addf (mulf x c) (mulf (select k0_pay8 (dynamicRotate 1 96#32 none x rotates_S512x128_d1)
    (dynamicRotate 1 32#32 none x rotates_S512x128_d1)) s)

theorem rope_apply (c s x : FVec Ideal S512x128 .f32) (p : Fin 512) (l : Fin 128) :
    rope c s x (ix2 p l) = turn (fun k => x (ix2 p k)) (c (ix2 p l)) (s (ix2 p l)) l := by
  show x (ix2 p l) * c (ix2 p l)
      + Scalar.select (k0_pay8 (ix2 p l)) (dynamicRotate 1 96#32 none x rotates_S512x128_d1 (ix2 p l))
          (dynamicRotate 1 32#32 none x rotates_S512x128_d1 (ix2 p l)) * s (ix2 p l) = _
  rw [mask_apply, rot96, rot32]
  unfold turn
  by_cases h : l.val % 64 < 32
  · rw [if_pos h, if_pos h]; rfl
  · rw [if_neg h, if_neg h]; rfl

/-- A slice of 128 columns, read at an entry. -/
theorem cols_apply (o : ℕ) (ho : o + 128 ≤ 512) (x : FVec Ideal S512x512 .f32) (hs : S512x512.Slices ![0, o] S512x128) (p : Fin 512)
    (l : Fin 128) : extractStridedSlice S512x128 ![0, o] x hs (ix2 p l) = x (ix2 p ⟨o + l.val, by omega⟩) := by
  pointwise []

section
variable (y : Vec Ideal S512x1024 .bf16) (c s : FVec Ideal S512x128 .f32) (w : Vec Ideal S1024x512 .bf16) (x : FVec Ideal S512x512 .f32)
  (p : Fin 512) (l : Fin 128)

/-- The turn over a slice of 128 columns. -/
theorem rope_cols (o : ℕ) (ho : o + 128 ≤ 512) (hs : S512x512.Slices ![0, o] S512x128) :
    rope c s (extractStridedSlice S512x128 ![0, o] x hs) (ix2 p l)
      = turn (fun k => x (ix2 p ⟨o + k.val, by omega⟩)) (c (ix2 p l)) (s (ix2 p l)) l := by
  rw [rope_apply]
  unfold turn
  simp only [cols_apply o ho x hs]

theorem pay11_eq : k0_pay11 (F := Ideal) y c s k0_pay8 w
    = (rope c s (extractStridedSlice S512x128 ![0, 0] (k0_pay9 (F := Ideal) y w) slices_S512x512_o0_0_S512x128) : S512x128.Idx → EReal) := rfl
theorem pay12_eq : k0_pay12 (F := Ideal) y c s k0_pay8 w
    = rope c s (extractStridedSlice S512x128 ![0, 0] (k0_pay10 (F := Ideal) y w) slices_S512x512_o0_0_S512x128) := rfl
theorem pay13_eq : k0_pay13 (F := Ideal) y c s k0_pay8 w
    = (rope c s (extractStridedSlice S512x128 ![0, 128] (k0_pay9 (F := Ideal) y w) slices_S512x512_o0_128_S512x128) : S512x128.Idx → EReal) := rfl
theorem pay14_eq : k0_pay14 (F := Ideal) y c s k0_pay8 w
    = rope c s (extractStridedSlice S512x128 ![0, 128] (k0_pay10 (F := Ideal) y w) slices_S512x512_o0_128_S512x128) := rfl
theorem pay15_eq : k0_pay15 (F := Ideal) c s k0_pay8 x
    = (rope c s (extractStridedSlice S512x128 ![0, 256] x slices_S512x512_o0_256_S512x128) : S512x128.Idx → EReal) := rfl
theorem pay16_eq : k0_pay16 (F := Ideal) c s k0_pay8 x
    = rope c s (extractStridedSlice S512x128 ![0, 256] x slices_S512x512_o0_256_S512x128) := rfl
theorem pay17_eq : k0_pay17 (F := Ideal) c s k0_pay8 x
    = (rope c s (extractStridedSlice S512x128 ![0, 384] x slices_S512x512_o0_384_S512x128) : S512x128.Idx → EReal) := rfl
theorem pay18_eq : k0_pay18 (F := Ideal) c s k0_pay8 x
    = rope c s (extractStridedSlice S512x128 ![0, 384] x slices_S512x512_o0_384_S512x128) := rfl

end

end Cert.Kernel2Ideal.InProj
-- ==== Proof.Loads.lean ====
/- Loads through a window held whole, read at an entry. -/
module

public import Idealize.ShloMosaic.Lib.Pipeline.Value
public import Idealize.ShloMosaic.Lib.ValueIdxCore
public import Idealize.ShloMosaic.Lib.Pointwise
public import Idealize.ShloMosaic.Lib.WholeRead

@[expose] public section

set_option maxRecDepth 16384

noncomputable section

namespace Cert.Loads

open Idealize.ShloMosaic Idealize.ShloMosaic.TcCoe

variable {sig : RefSig}

/-- A load of a whole window reads the window. -/
theorem whole_load {S : Shape} {e : EltTy} {m : Memref sig .tc .vmem S e} (hm : m.IsWhole) (X : S.Idx → Elt Ideal e)
    (off : Fin S.rank → ℕ) (h0 : ∀ a, off a = 0) (h) (j : S.Idx) :
    View.readAt (Elt Ideal) m.view (Rect.unit off S.size h).toLoadRect (hm.unread X) j = X j := by
  refine (hm.readAt_unread X (Rect.unit off S.size h).toLoadRect j).trans (congrArg X (funext fun a => Fin.ext ?_))
  show off a + 1 * (j a).val = (j a).val
  rw [h0]; omega

/-- A load of `W` columns from column `o` on, read at an entry. -/
theorem cols_load {K W C : ℕ} {e : EltTy} {m : Memref sig .tc .vmem ⟨2, ![K, C]⟩ e} (hm : m.IsWhole) (X : (⟨2, ![K, C]⟩ : Shape).Idx → Elt Ideal e)
    (o : ℕ) (h) (k : Fin K) (n : Fin W) (n' : Fin C) (hn : n'.val = o + n.val) :
    View.readAt (Elt Ideal) m.view (Rect.unit (s := ⟨2, ![K, C]⟩) ![0, o] ![K, W] h).toLoadRect (hm.unread X) (ix2 k n) = X (ix2 k n') := by
  refine (hm.readAt_unread X (Rect.unit (s := ⟨2, ![K, C]⟩) ![0, o] ![K, W] h).toLoadRect (ix2 k n)).trans (congrArg X (funext fun a => Fin.ext ?_))
  match a with
  | ⟨0, _⟩ => show 0 + 1 * k.val = k.val; omega
  | ⟨1, _⟩ => show o + 1 * n.val = n'.val; omega

/-- A store of `W` columns from column `o` on puts its entries there. -/
theorem cols_emb {K W C : ℕ} (o : ℕ) (h) (k : Fin K) (n : Fin W) (n' : Fin C) (hn : n'.val = o + n.val) :
    (Rect.unit (s := ⟨2, ![K, C]⟩) ![0, o] ![K, W] h).emb (ix2 k n) = ix2 k n' := by
  refine funext fun a => Fin.ext ?_
  match a with
  | ⟨0, _⟩ => show 0 + 1 * k.val = k.val; omega
  | ⟨1, _⟩ => show o + 1 * n.val = n'.val; omega

end Cert.Loads
-- ==== Proof.InProjOut.lean ====
/- What the projection kernel's body leaves in its output blocks, read at an entry. -/
module

public import proofs.«01_k».proof.Proof.Gen.Kernel2Ideal.Value
public import proofs.«01_k».proof.Proof.InProjPay
public import proofs.«01_k».proof.Proof.Loads

@[expose] public section

set_option maxRecDepth 16384

noncomputable section

namespace Cert.Kernel2Ideal.InProj

open Cert.Kernel2Ideal Cert.Kernel2Ideal.Gen Cert.Loads
open Idealize.ShloMosaic Idealize.ShloMosaic.TcCoe

theorem pay6_apply (x : Vec Ideal S512x128 .f32) (j : S512x128.Idx) : k0_pay6 (F := Ideal) x j = x j := by
  obtain ⟨p, n, rfl⟩ : ∃ (p : Fin 512) (n : Fin 128), j = ix2 p n := ⟨j 0, j 1, eq_ix2 j⟩
  pointwise [k0_pay6]

theorem pay7_apply (x : Vec Ideal S512x128 .f32) (j : S512x128.Idx) : k0_pay7 (F := Ideal) x j = x j := by
  obtain ⟨p, n, rfl⟩ : ∃ (p : Fin 512) (n : Fin 128), j = ix2 p n := ⟨j 0, j 1, eq_ix2 j⟩
  pointwise [k0_pay7]

/-- Column `n` of the projection of a block's row `p`. -/
def proj (x0 : Vec Ideal S512x1024 .f32) (x1 : Vec Ideal S1x1024 .f32) (x2 : Vec Ideal S1024x6144 .bf16) (p : Fin 512) (n : Fin 6144) : EReal :=
  dot (fun k => Norm.norm (fun k => x0 (ix2 p k)) (fun k => x1 (ix2 0 k)) k) (fun k => x2 (ix2 k n))

/-- Columns `o ..` of the projection of a block's row `p`, turned by the tables' entries. -/
def turned (x0 : Vec Ideal S512x1024 .f32) (x1 : Vec Ideal S1x1024 .f32) (x2 : Vec Ideal S1024x6144 .bf16) (x3 x4 : Vec Ideal S512x128 .f32)
    (o : ℕ) (ho : o + 512 ≤ 6144) (p : Fin 512) (n : Fin 512) : EReal :=
  turn (fun l => proj x0 x1 x2 p ⟨o + (n.val / 128 * 128 + l.val), by omega⟩) (x3 (ix2 p ⟨n.val % 128, by omega⟩))
    (x4 (ix2 p ⟨n.val % 128, by omega⟩)) ⟨n.val % 128, by omega⟩

section
variable {x0 : Vec Ideal S512x1024 .f32} {x1 : Vec Ideal S1x1024 .f32} {x2 : Vec Ideal S1024x6144 .bf16} {x3 x4 : Vec Ideal S512x128 .f32}
  {a0 : Vec Ideal S512x1024 .f32} {a1 : Vec Ideal S1x1024 .f32}

theorem proj_of (h0 : ∀ j, a0 j = x0 j) (h1 : ∀ j, a1 j = x1 j) {w : Vec Ideal S1024x512 .bf16} {o : ℕ} (ho : o + 512 ≤ 6144)
    (hw : ∀ (k : Fin 1024) (n : Fin 512), w (ix2 k n) = x2 (ix2 k ⟨o + n.val, by omega⟩)) (p n : Fin 512) (n' : Fin 6144)
    (hn : n'.val = o + n.val) :
    dot (fun k => k0_pay5 (F := Ideal) a0 a1 (ix2 p k)) (fun k => w (ix2 k n)) = proj x0 x1 x2 p n' := by
  obtain rfl : a0 = x0 := funext h0
  obtain rfl : a1 = x1 := funext h1
  have e : n' = ⟨o + n.val, by omega⟩ := Fin.ext hn
  rw [e]
  exact Finset.sum_congr rfl fun k _ => congrArg₂ (· * ·) (pay5_apply a0 a1 p k) (hw k n)

theorem turned_of {c s : Vec Ideal S512x128 .f32} (hc : ∀ j, c j = x3 j) (hs : ∀ j, s j = x4 j) {y : FVec Ideal S512x512 .f32} {o : ℕ}
    (ho : o + 512 ≤ 6144) {p : Fin 512} (hy : ∀ n : Fin 512, y (ix2 p n) = proj x0 x1 x2 p ⟨o + n.val, by omega⟩) (g : ℕ) (hg : g + 128 ≤ 512)
    (h128 : g % 128 = 0) (hsl : S512x512.Slices ![0, g] S512x128) (l : Fin 128) (n : Fin 512) (hn : n.val = g + l.val) :
    rope c s (extractStridedSlice S512x128 ![0, g] y hsl) (ix2 p l) = turned x0 x1 x2 x3 x4 o ho p n := by
  obtain rfl : c = x3 := funext hc
  obtain rfl : s = x4 := funext hs
  have hl : (⟨n.val % 128, by omega⟩ : Fin 128) = l := Fin.ext (by show n.val % 128 = l.val; omega)
  have hd : n.val / 128 * 128 = g := by omega
  rw [rope_cols (ho := hg)]
  unfold turned
  simp only [hl, hd, hy]

end

/-- The values of a block of rows. -/
def G7 (x0 : Vec Ideal S512x1024 .f32) (x1 : Vec Ideal S1x1024 .f32) (x2 : Vec Ideal S1024x6144 .bf16) (j : S512x512.Idx) : EReal :=
  proj x0 x1 x2 (j 0) ⟨1024 + (j 1).val, by have := (j 1).isLt; dsimp at this; omega⟩

/-- The gated values of a block of rows. -/
def G8 (x0 : Vec Ideal S512x1024 .f32) (x1 : Vec Ideal S1x1024 .f32) (x2 : Vec Ideal S1024x6144 .bf16) (j : S512x512.Idx) : EReal :=
  proj x0 x1 x2 (j 0) ⟨1536 + (j 1).val, by have := (j 1).isLt; dsimp at this; omega⟩ * Ideal.logistic (proj x0 x1 x2 (j 0) ⟨2048 + (j 1).val, by have := (j 1).isLt; dsimp at this; omega⟩)

/-- The memory queries of a block of rows. -/
def G9 (x0 : Vec Ideal S512x1024 .f32) (x1 : Vec Ideal S1x1024 .f32) (x2 : Vec Ideal S1024x6144 .bf16) (j : S512x512.Idx) : EReal :=
  proj x0 x1 x2 (j 0) ⟨2560 + (j 1).val, by have := (j 1).isLt; dsimp at this; omega⟩ * Ideal.ofBits .f32 0x3DB504F3#32

/-- The gates of a block of rows. -/
def G10 (x0 : Vec Ideal S512x1024 .f32) (x1 : Vec Ideal S1x1024 .f32) (x2 : Vec Ideal S1024x6144 .bf16) (j : S512x3072.Idx) : EReal :=
  Ideal.logistic (proj x0 x1 x2 (j 0) ⟨3072 + (j 1).val, by have := (j 1).isLt; dsimp at this; omega⟩)

/-- The queries of a block of rows. -/
def G5 (x0 : Vec Ideal S512x1024 .f32) (x1 : Vec Ideal S1x1024 .f32) (x2 : Vec Ideal S1024x6144 .bf16) (x3 x4 : Vec Ideal S512x128 .f32) (j : S512x512.Idx) : EReal :=
  turned x0 x1 x2 x3 x4 0 (by omega) (j 0) (j 1)

/-- The keys of a block of rows. -/
def G6 (x0 : Vec Ideal S512x1024 .f32) (x1 : Vec Ideal S1x1024 .f32) (x2 : Vec Ideal S1024x6144 .bf16) (x3 x4 : Vec Ideal S512x128 .f32) (j : S512x512.Idx) : EReal :=
  turned x0 x1 x2 x3 x4 512 (by omega) (j 0) (j 1)

section
variable {arg1 : Memref sig .tc .vmem S512x1024 .f32} {harg1 : arg1.IsWhole} {arg2 : Memref sig .tc .vmem S1x1024 .f32} {harg2 : arg2.IsWhole}
  {arg3 : Memref sig .tc .vmem S1024x6144 .bf16} {harg3 : arg3.IsWhole}
  {x0 : Vec Ideal S512x1024 .f32} {x1 : Vec Ideal S1x1024 .f32} {x2 : Vec Ideal S1024x6144 .bf16} {x3 x4 : Vec Ideal S512x128 .f32}

theorem dot_load (o : ℕ) (ho : o + 512 ≤ 6144) (i0) (i1) (iw) (p n : Fin 512) (n' : Fin 6144) (hn : n'.val = o + n.val) :
    dot (fun k => (k0_pay5 (F := Ideal) (View.readAt (Elt Ideal) arg1.view (Rect.unit (s := S512x1024) ![0, 0] S512x1024.size i0).toLoadRect (harg1.unread x0)) (View.readAt (Elt Ideal) arg2.view (Rect.unit (s := S1x1024) ![0, 0] S1x1024.size i1).toLoadRect (harg2.unread x1))) (ix2 p k))
      (fun k => (View.readAt (Elt Ideal) arg3.view (Rect.unit (s := S1024x6144) ![0, o] ![1024, 512] iw).toLoadRect (harg3.unread x2)) (ix2 k n)) = proj x0 x1 x2 p n' :=
  proj_of (fun j => whole_load harg1 x0 _ (by decide) i0 j) (fun j => whole_load harg2 x1 _ (by decide) i1 j) ho
    (fun k n => cols_load harg3 x2 o iw k n ⟨o + n.val, by omega⟩ rfl) p n n' hn

theorem value_piece (i0) (i1) (iw) (is) (x : (Rect.unit (s := S512x512) ![0, 0] ![512, 512] is).shape.Idx) :
    k0_pay19 (F := Ideal) (k0_pay5 (F := Ideal) (View.readAt (Elt Ideal) arg1.view (Rect.unit (s := S512x1024) ![0, 0] S512x1024.size i0).toLoadRect (harg1.unread x0)) (View.readAt (Elt Ideal) arg2.view (Rect.unit (s := S1x1024) ![0, 0] S1x1024.size i1).toLoadRect (harg2.unread x1))) (View.readAt (Elt Ideal) arg3.view (Rect.unit (s := S1024x6144) ![0, 1024] ![1024, 512] iw).toLoadRect (harg3.unread x2)) x
      = G7 x0 x1 x2 ((Rect.unit (s := S512x512) ![0, 0] ![512, 512] is).emb x) := by
  obtain ⟨p, n, rfl⟩ : ∃ (p : Fin 512) (n : Fin 512), x = ix2 p n := ⟨x 0, x 1, eq_ix2 x⟩
  have h : (Rect.unit (s := S512x512) ![0, 0] ![512, 512] is).emb (ix2 p n) = ix2 p n := cols_emb 0 is p n n (Nat.zero_add _).symm
  rw [h]
  exact (pay19_apply _ _ p n).trans (dot_load 1024 (by omega) i0 i1 iw p n _ rfl)

theorem gated_piece (i0) (i1) (iw) (iw') (is) (x : (Rect.unit (s := S512x512) ![0, 0] ![512, 512] is).shape.Idx) :
    k0_pay54 (F := Ideal) (k0_pay5 (F := Ideal) (View.readAt (Elt Ideal) arg1.view (Rect.unit (s := S512x1024) ![0, 0] S512x1024.size i0).toLoadRect (harg1.unread x0)) (View.readAt (Elt Ideal) arg2.view (Rect.unit (s := S1x1024) ![0, 0] S1x1024.size i1).toLoadRect (harg2.unread x1))) (View.readAt (Elt Ideal) arg3.view (Rect.unit (s := S1024x6144) ![0, 1536] ![1024, 512] iw).toLoadRect (harg3.unread x2))
      (View.readAt (Elt Ideal) arg3.view (Rect.unit (s := S1024x6144) ![0, 2048] ![1024, 512] iw').toLoadRect (harg3.unread x2)) x
      = G8 x0 x1 x2 ((Rect.unit (s := S512x512) ![0, 0] ![512, 512] is).emb x) := by
  obtain ⟨p, n, rfl⟩ : ∃ (p : Fin 512) (n : Fin 512), x = ix2 p n := ⟨x 0, x 1, eq_ix2 x⟩
  have h : (Rect.unit (s := S512x512) ![0, 0] ![512, 512] is).emb (ix2 p n) = ix2 p n := cols_emb 0 is p n n (Nat.zero_add _).symm
  rw [h]
  exact (pay54_apply _ _ _ p n).trans (congrArg₂ (fun a b => a * Ideal.logistic b) (dot_load 1536 (by omega) i0 i1 iw p n _ rfl)
    (dot_load 2048 (by omega) i0 i1 iw' p n _ rfl))

theorem query_piece (i0) (i1) (iw) (is) (x : (Rect.unit (s := S512x512) ![0, 0] ![512, 512] is).shape.Idx) :
    k0_pay55 (F := Ideal) (k0_pay5 (F := Ideal) (View.readAt (Elt Ideal) arg1.view (Rect.unit (s := S512x1024) ![0, 0] S512x1024.size i0).toLoadRect (harg1.unread x0)) (View.readAt (Elt Ideal) arg2.view (Rect.unit (s := S1x1024) ![0, 0] S1x1024.size i1).toLoadRect (harg2.unread x1))) (View.readAt (Elt Ideal) arg3.view (Rect.unit (s := S1024x6144) ![0, 2560] ![1024, 512] iw).toLoadRect (harg3.unread x2)) x
      = G9 x0 x1 x2 ((Rect.unit (s := S512x512) ![0, 0] ![512, 512] is).emb x) := by
  obtain ⟨p, n, rfl⟩ : ∃ (p : Fin 512) (n : Fin 512), x = ix2 p n := ⟨x 0, x 1, eq_ix2 x⟩
  have h : (Rect.unit (s := S512x512) ![0, 0] ![512, 512] is).emb (ix2 p n) = ix2 p n := cols_emb 0 is p n n (Nat.zero_add _).symm
  rw [h]
  exact (pay55_apply _ _ p n).trans (congrArg (fun a => a * Ideal.ofBits .f32 0x3DB504F3#32) (dot_load 2560 (by omega) i0 i1 iw p n _ rfl))

theorem gate_piece {pay : Vec Ideal S512x1024 .bf16 → Vec Ideal S1024x512 .bf16 → FVec Ideal S512x512 .f32}
    (hp : ∀ y w (p n : Fin 512), pay y w (ix2 p n) = Ideal.logistic (dot (fun k => y (ix2 p k)) (fun k => w (ix2 k n))))
    (o o' : ℕ) (ho : o + 512 ≤ 3072) (ho' : o' = 3072 + o)
    (i0) (i1) (iw) (is) (x : (Rect.unit (s := S512x3072) ![0, o] ![512, 512] is).shape.Idx) :
    pay (k0_pay5 (F := Ideal) (View.readAt (Elt Ideal) arg1.view (Rect.unit (s := S512x1024) ![0, 0] S512x1024.size i0).toLoadRect (harg1.unread x0)) (View.readAt (Elt Ideal) arg2.view (Rect.unit (s := S1x1024) ![0, 0] S1x1024.size i1).toLoadRect (harg2.unread x1))) (View.readAt (Elt Ideal) arg3.view (Rect.unit (s := S1024x6144) ![0, o'] ![1024, 512] iw).toLoadRect (harg3.unread x2)) x
      = G10 x0 x1 x2 ((Rect.unit (s := S512x3072) ![0, o] ![512, 512] is).emb x) := by
  obtain ⟨p, n, rfl⟩ : ∃ (p : Fin 512) (n : Fin 512), x = ix2 p n := ⟨x 0, x 1, eq_ix2 x⟩
  have h : (Rect.unit (s := S512x3072) ![0, o] ![512, 512] is).emb (ix2 p n) = ix2 p ⟨o + n.val, by omega⟩ := cols_emb o is p n _ rfl
  rw [h]
  exact (hp _ _ p n).trans (congrArg Ideal.logistic (dot_load o' (by omega) i0 i1 iw p n _
    (by show 3072 + (o + n.val) = o' + n.val; omega)))

theorem turned_piece {c s : FVec Ideal S512x128 .f32} {b : FVec Ideal S512x512 .f32} {g : ℕ} {hsl : S512x512.Slices ![0, g] S512x128}
    (hc : ∀ j, c j = x3 j) (hs : ∀ j, s j = x4 j) (o : ℕ)
    (ho : o + 512 ≤ 6144) (hb : ∀ (p n : Fin 512), b (ix2 p n) = proj x0 x1 x2 p ⟨o + n.val, by omega⟩) (hg : g + 128 ≤ 512)
    (h128 : g % 128 = 0) (is) (x : (Rect.unit (s := S512x512) ![0, g] ![512, 128] is).shape.Idx) :
    rope c s (extractStridedSlice S512x128 ![0, g] b hsl) x = turned x0 x1 x2 x3 x4 o ho ((Rect.unit (s := S512x512) ![0, g] ![512, 128] is).emb x 0)
      ((Rect.unit (s := S512x512) ![0, g] ![512, 128] is).emb x 1) := by
  obtain ⟨p, n, rfl⟩ : ∃ (p : Fin 512) (n : Fin 128), x = ix2 p n := ⟨x 0, x 1, eq_ix2 x⟩
  have h : (Rect.unit (s := S512x512) ![0, g] ![512, 128] is).emb (ix2 p n) = ix2 p ⟨g + n.val, by omega⟩ := cols_emb g is p n _ rfl
  rw [h]
  exact turned_of hc hs ho (hb p) g hg h128 hsl n _ rfl

end

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x3072 .f32) (harg11 : arg11.IsWhole) (arg12 : Memref sig .tc .vmem S512x1024 .bf16) (harg12 : arg12.IsWhole) (arg13 : Memref sig .tc .vmem S640x512 .bf16) (harg13 : arg13.IsWhole) (arg14 : Memref sig .tc .vmem S2x1x512 .f32) (harg14 : arg14.IsWhole)
    (x0 : Vec Ideal S512x1024 .f32) (x1 : Vec Ideal S1x1024 .f32) (x2 : Vec Ideal S1024x6144 .bf16) (x3 x4 : Vec Ideal S512x128 .f32)

theorem out7_eq (y : S512x512.Idx) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y = G7 x0 x1 x2 y := by
  unfold out0_A_7
  rw [View.read_writes_junk_eq_canon]
  refine View.canon_apply_of_pieces (G7 x0 x1 x2) _ ?_ y
    (cover0_A_7 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y)
  unfold kernelRun0_A
  dsimp only
  try unfold kernelRun0_A.sl.H7_6
  try unfold kernelRun0_A.sl.H7_5
  try unfold kernelRun0_A.sl.H7_4
  try unfold kernelRun0_A.sl.H7_3
  try unfold kernelRun0_A.sl.H7_2
  try unfold kernelRun0_A.sl.H7_1
  unfold kernelRun0_A.sl.r
  refine List.forall_mem_cons.2 ⟨?_, fun _ h => absurd h List.not_mem_nil⟩
  · intro x
    exact value_piece _ _ _ inb_S512x512_S512x512_0_0 x

theorem out8_eq (y : S512x512.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y = G8 x0 x1 x2 y := by
  unfold out0_A_8
  rw [View.read_writes_junk_eq_canon]
  refine View.canon_apply_of_pieces (G8 x0 x1 x2) _ ?_ y
    (cover0_A_8 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y)
  unfold kernelRun0_A
  dsimp only
  try unfold kernelRun0_A.sl.H8_6
  try unfold kernelRun0_A.sl.H8_5
  try unfold kernelRun0_A.sl.H8_4
  try unfold kernelRun0_A.sl.H8_3
  try unfold kernelRun0_A.sl.H8_2
  try unfold kernelRun0_A.sl.H8_1
  unfold kernelRun0_A.sl.r
  refine List.forall_mem_cons.2 ⟨?_, fun _ h => absurd h List.not_mem_nil⟩
  · intro x
    exact gated_piece _ _ _ _ inb_S512x512_S512x512_0_0 x

theorem out9_eq (y : S512x512.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y = G9 x0 x1 x2 y := by
  unfold out0_A_9
  rw [View.read_writes_junk_eq_canon]
  refine View.canon_apply_of_pieces (G9 x0 x1 x2) _ ?_ y
    (cover0_A_9 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y)
  unfold kernelRun0_A
  dsimp only
  try unfold kernelRun0_A.sl.H9_6
  try unfold kernelRun0_A.sl.H9_5
  try unfold kernelRun0_A.sl.H9_4
  try unfold kernelRun0_A.sl.H9_3
  try unfold kernelRun0_A.sl.H9_2
  try unfold kernelRun0_A.sl.H9_1
  unfold kernelRun0_A.sl.r
  refine List.forall_mem_cons.2 ⟨?_, fun _ h => absurd h List.not_mem_nil⟩
  · intro x
    exact query_piece _ _ _ inb_S512x512_S512x512_0_0 x

theorem out10_eq (y : S512x3072.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y = G10 x0 x1 x2 y := by
  unfold out0_A_10
  rw [View.read_writes_junk_eq_canon]
  refine View.canon_apply_of_pieces (G10 x0 x1 x2) _ ?_ y
    (cover0_A_10 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y)
  unfold kernelRun0_A
  dsimp only
  try unfold kernelRun0_A.sl.H10_6
  try unfold kernelRun0_A.sl.H10_5
  try unfold kernelRun0_A.sl.H10_4
  try unfold kernelRun0_A.sl.H10_3
  try unfold kernelRun0_A.sl.H10_2
  try unfold kernelRun0_A.sl.H10_1
  try unfold kernelRun0_A.sl.r_14
  unfold kernelRun0_A.sl.r
  refine List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩
  · intro x
    exact gate_piece pay4_apply 2560 5632 (by omega) rfl _ _ _ inb_S512x3072_S512x512_0_2560 x
  · intro x
    exact gate_piece pay3_apply 2048 5120 (by omega) rfl _ _ _ inb_S512x3072_S512x512_0_2048 x
  · intro x
    exact gate_piece pay2_apply 1536 4608 (by omega) rfl _ _ _ inb_S512x3072_S512x512_0_1536 x
  · intro x
    exact gate_piece pay1_apply 1024 4096 (by omega) rfl _ _ _ inb_S512x3072_S512x512_0_1024 x
  · intro x
    exact gate_piece pay57_apply 512 3584 (by omega) rfl _ _ _ inb_S512x3072_S512x512_0_512 x
  · intro x
    exact gate_piece pay56_apply 0 3072 (by omega) rfl _ _ _ inb_S512x3072_S512x512_0_0 x

theorem out5_eq (y : S512x512.Idx) :
    out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y = G5 x0 x1 x2 x3 x4 y := by
  unfold out0_A_5
  rw [View.read_writes_junk_eq_canon]
  refine View.canon_apply_of_pieces (G5 x0 x1 x2 x3 x4) _ ?_ y
    (cover0_A_5 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y)
  unfold kernelRun0_A
  dsimp only
  try unfold kernelRun0_A.sl.H5_6
  try unfold kernelRun0_A.sl.H5_5
  try unfold kernelRun0_A.sl.H5_4
  try unfold kernelRun0_A.sl.H5_3
  try unfold kernelRun0_A.sl.H5_2
  try unfold kernelRun0_A.sl.H5_1
  try unfold kernelRun0_A.sl.r_5
  try unfold kernelRun0_A.sl.r_4
  try unfold kernelRun0_A.sl.r_3
  try unfold kernelRun0_A.sl.r_2
  try unfold kernelRun0_A.sl.r_1
  unfold kernelRun0_A.sl.r
  refine List.forall_mem_cons.2 ⟨?_, List.forall_mem_cons.2 ⟨?_, List.forall_mem_cons.2 ⟨?_, List.forall_mem_cons.2 ⟨?_, fun _ h => absurd h List.not_mem_nil⟩⟩⟩⟩
  · intro x
    refine (congrFun (pay17_eq _ _ _) x).trans (turned_piece ?_ ?_ 0 (by omega) ?_ (by omega) rfl inb_S512x512_S512x128_0_384 x)
    · exact fun j => (pay6_apply _ j).trans (whole_load harg4 x3 _ (by decide) _ j)
    · exact fun j => (pay7_apply _ j).trans (whole_load harg5 x4 _ (by decide) _ j)
    · exact fun p n => (pay9_apply _ _ p n).trans (dot_load 0 (by omega) _ _ _ p n _ rfl)
  · intro x
    refine (congrFun (pay15_eq _ _ _) x).trans (turned_piece ?_ ?_ 0 (by omega) ?_ (by omega) rfl inb_S512x512_S512x128_0_256 x)
    · exact fun j => (pay6_apply _ j).trans (whole_load harg4 x3 _ (by decide) _ j)
    · exact fun j => (pay7_apply _ j).trans (whole_load harg5 x4 _ (by decide) _ j)
    · exact fun p n => (pay9_apply _ _ p n).trans (dot_load 0 (by omega) _ _ _ p n _ rfl)
  · intro x
    refine (congrFun (pay13_eq _ _ _ _) x).trans (turned_piece ?_ ?_ 0 (by omega) ?_ (by omega) rfl inb_S512x512_S512x128_0_128 x)
    · exact fun j => (pay6_apply _ j).trans (whole_load harg4 x3 _ (by decide) _ j)
    · exact fun j => (pay7_apply _ j).trans (whole_load harg5 x4 _ (by decide) _ j)
    · exact fun p n => (pay9_apply _ _ p n).trans (dot_load 0 (by omega) _ _ _ p n _ rfl)
  · intro x
    refine (congrFun (pay11_eq _ _ _ _) x).trans (turned_piece ?_ ?_ 0 (by omega) ?_ (by omega) rfl inb_S512x512_S512x128_0_0 x)
    · exact fun j => (pay6_apply _ j).trans (whole_load harg4 x3 _ (by decide) _ j)
    · exact fun j => (pay7_apply _ j).trans (whole_load harg5 x4 _ (by decide) _ j)
    · exact fun p n => (pay9_apply _ _ p n).trans (dot_load 0 (by omega) _ _ _ p n _ rfl)

theorem out6_eq (y : S512x512.Idx) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y = G6 x0 x1 x2 x3 x4 y := by
  unfold out0_A_6
  rw [View.read_writes_junk_eq_canon]
  refine View.canon_apply_of_pieces (G6 x0 x1 x2 x3 x4) _ ?_ y
    (cover0_A_6 c i arg1 harg1 arg2 harg2 arg3 harg3 arg4 harg4 arg5 harg5 arg6 harg6 arg7 harg7 arg8 harg8 arg9 harg9 arg10 harg10 arg11 harg11 arg12 harg12 arg13 harg13 arg14 harg14
      x0 x1 x2 x3 x4 y)
  unfold kernelRun0_A
  dsimp only
  try unfold kernelRun0_A.sl.H6_6
  try unfold kernelRun0_A.sl.H6_5
  try unfold kernelRun0_A.sl.H6_4
  try unfold kernelRun0_A.sl.H6_3
  try unfold kernelRun0_A.sl.H6_2
  try unfold kernelRun0_A.sl.H6_1
  try unfold kernelRun0_A.sl.r_5
  try unfold kernelRun0_A.sl.r_4
  try unfold kernelRun0_A.sl.r_3
  try unfold kernelRun0_A.sl.r_2
  try unfold kernelRun0_A.sl.r_1
  unfold kernelRun0_A.sl.r
  refine List.forall_mem_cons.2 ⟨?_, List.forall_mem_cons.2 ⟨?_, List.forall_mem_cons.2 ⟨?_, List.forall_mem_cons.2 ⟨?_, fun _ h => absurd h List.not_mem_nil⟩⟩⟩⟩
  · intro x
    refine (congrFun (pay18_eq _ _ _) x).trans (turned_piece ?_ ?_ 512 (by omega) ?_ (by omega) rfl inb_S512x512_S512x128_0_384 x)
    · exact fun j => (pay6_apply _ j).trans (whole_load harg4 x3 _ (by decide) _ j)
    · exact fun j => (pay7_apply _ j).trans (whole_load harg5 x4 _ (by decide) _ j)
    · exact fun p n => (pay10_apply _ _ p n).trans (dot_load 512 (by omega) _ _ _ p n _ rfl)
  · intro x
    refine (congrFun (pay16_eq _ _ _) x).trans (turned_piece ?_ ?_ 512 (by omega) ?_ (by omega) rfl inb_S512x512_S512x128_0_256 x)
    · exact fun j => (pay6_apply _ j).trans (whole_load harg4 x3 _ (by decide) _ j)
    · exact fun j => (pay7_apply _ j).trans (whole_load harg5 x4 _ (by decide) _ j)
    · exact fun p n => (pay10_apply _ _ p n).trans (dot_load 512 (by omega) _ _ _ p n _ rfl)
  · intro x
    refine (congrFun (pay14_eq _ _ _ _) x).trans (turned_piece ?_ ?_ 512 (by omega) ?_ (by omega) rfl inb_S512x512_S512x128_0_128 x)
    · exact fun j => (pay6_apply _ j).trans (whole_load harg4 x3 _ (by decide) _ j)
    · exact fun j => (pay7_apply _ j).trans (whole_load harg5 x4 _ (by decide) _ j)
    · exact fun p n => (pay10_apply _ _ p n).trans (dot_load 512 (by omega) _ _ _ p n _ rfl)
  · intro x
    refine (congrFun (pay12_eq _ _ _ _) x).trans (turned_piece ?_ ?_ 512 (by omega) ?_ (by omega) rfl inb_S512x512_S512x128_0_0 x)
    · exact fun j => (pay6_apply _ j).trans (whole_load harg4 x3 _ (by decide) _ j)
    · exact fun j => (pay7_apply _ j).trans (whole_load harg5 x4 _ (by decide) _ j)
    · exact fun p n => (pay10_apply _ _ p n).trans (dot_load 512 (by omega) _ _ _ p n _ rfl)

end Cert.Kernel2Ideal.InProj
-- ==== Proof.InProjRef.lean ====
/- The projection's reference read at an entry. -/
module

public import proofs.«01_k».proof.Proof.Gen.Reference2Ideal.Read
public import proofs.«01_k».proof.Proof.Norm
public import Idealize.ShloMosaic.Lib.Pipeline.Value
public import Idealize.ShloMosaic.Lib.Pointwise
public import Idealize.ShloMosaic.Lib.ValueIdxCore

@[expose] public section

set_option maxRecDepth 16384

noncomputable section

namespace Cert.Reference2Ideal.InProj

open Cert.Reference2Ideal Cert.Reference2Ideal.Read
open Idealize.ShloMosaic Idealize.ShloMosaic.TcCoe

variable (x : Vec Ideal S16384x1024 .f32) (g : Vec Ideal S1024 .f32) (w : Vec Ideal S1024x6144 .f32)

/-- Column `n` of the projection of row `r`. -/
def proj (r : Fin 16384) (n : Fin 6144) : EReal :=
  ∑ k : Fin 1024, Norm.norm (fun k => x (ix2 r k)) (fun k => g (ix1 k)) k * w (ix2 k n)

/-- The angle of a row and a lane. -/
abbrev angle : FVec Ideal S16384x32 .f32 := val_main_v33 (F := Ideal)

theorem v13_apply (r : Fin 16384) (n : Fin 6144) : val_main_v13 (F := Ideal) x g w (ix2 r n) = proj x g w r n := by
  unfold proj
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, Norm.norm]

theorem values_apply (r : Fin 16384) (n : Fin 512) :
    val_main_v16 (F := Ideal) x g w (ix2 r n) = proj x g w r ⟨1024 + n.val, by omega⟩ := by
  rw [← v13_apply]
  pointwise [val_main_v16]

theorem gated_apply (r : Fin 16384) (n : Fin 512) :
    val_main_v92 (F := Ideal) x g w (ix2 r n)
      = proj x g w r ⟨1536 + n.val, by omega⟩ * Ideal.logistic (proj x g w r ⟨2048 + n.val, by omega⟩) := by
  rw [← v13_apply, ← v13_apply]
  pointwise [val_main_v92, val_main_v91, val_main_v90, val_main_v89, val_main_v88, val_main_v87, val_main_v86, val_main_v84, val_main_v83,
    val_main_v17, val_main_cst_6, val_main_cst_7]
  rw [show (⟨1536 + (512 + n.val), by omega⟩ : Fin 6144) = ⟨2048 + n.val, by omega⟩ from
    Fin.ext (by show 1536 + (512 + n.val) = 2048 + n.val; omega)]
  rfl

theorem memory_queries_apply (r : Fin 16384) (n : Fin 512) :
    val_main_v95 (F := Ideal) x g w (ix2 r n) = proj x g w r ⟨2560 + n.val, by omega⟩ * Ideal.ofBits .f32 0x3DB504F3#32 := by
  rw [← v13_apply]
  pointwise [val_main_v95, val_main_v94, val_main_v93, val_main_v18, val_main_cst_8]

theorem gates_apply (r : Fin 16384) (n : Fin 3072) :
    val_main_v101 (F := Ideal) x g w (ix2 r n) = Ideal.logistic (proj x g w r ⟨3072 + n.val, by omega⟩) := by
  rw [← v13_apply]
  pointwise [val_main_v101, val_main_v100, val_main_v99, val_main_v98, val_main_v97, val_main_v96, val_main_v19, val_main_cst_9, val_main_cst_10]
  rfl

theorem v21_apply (r : Fin 16384) (h : Fin 8) (d : Fin 64) :
    val_main_v21 (F := Ideal) x g w (ix3 r h d) = proj x g w r ⟨h.val * 64 + d.val, by omega⟩ := by
  rw [← v13_apply, val_main_v21_apply, val_main_v14_apply]
  exact congrArg (val_main_v13 (F := Ideal) x g w) (funext fun a => Fin.ext (by
    match a with
    | ⟨0, _⟩ => show ((r.val * 8 + h.val) * 64 + d.val) / 512 = r.val; omega
    | ⟨1, _⟩ => show ((r.val * 8 + h.val) * 64 + d.val) % 512 = h.val * 64 + d.val; omega))

theorem v52_apply (r : Fin 16384) (h : Fin 8) (d : Fin 64) :
    val_main_v52 (F := Ideal) x g w (ix3 r h d) = proj x g w r ⟨512 + (h.val * 64 + d.val), by omega⟩ := by
  rw [← v13_apply, val_main_v52_apply, val_main_v15_apply]
  exact congrArg (val_main_v13 (F := Ideal) x g w) (funext fun a => Fin.ext (by
    match a with
    | ⟨0, _⟩ => show ((r.val * 8 + h.val) * 64 + d.val) / 512 = r.val; omega
    | ⟨1, _⟩ => show 512 + ((r.val * 8 + h.val) * 64 + d.val) % 512 = 512 + (h.val * 64 + d.val); omega))

theorem v44_apply (r : Fin 16384) (h : Fin 8) (d : Fin 32) :
    val_main_v44 (F := Ideal) x g w (ix3 r h d)
      = val_main_v21 (F := Ideal) x g w (ix3 r h ⟨d.val, by omega⟩) * Ideal.cos (angle (ix2 r d))
        - val_main_v21 (F := Ideal) x g w (ix3 r h ⟨32 + d.val, by omega⟩) * Ideal.sin (angle (ix2 r d)) := by
  pointwise [val_main_v44, val_main_v43, val_main_v42, val_main_v41, val_main_v40, val_main_v39, val_main_v38, val_main_v37, val_main_v36,
    val_main_v35, val_main_v34]

theorem v49_apply (r : Fin 16384) (h : Fin 8) (d : Fin 32) :
    val_main_v49 (F := Ideal) x g w (ix3 r h d)
      = val_main_v21 (F := Ideal) x g w (ix3 r h ⟨32 + d.val, by omega⟩) * Ideal.cos (angle (ix2 r d))
        + val_main_v21 (F := Ideal) x g w (ix3 r h ⟨d.val, by omega⟩) * Ideal.sin (angle (ix2 r d)) := by
  pointwise [val_main_v49, val_main_v48, val_main_v47, val_main_v46, val_main_v45, val_main_v39, val_main_v38, val_main_v37, val_main_v36,
    val_main_v35, val_main_v34]

theorem v64_eq : val_main_v64 (F := Ideal) = angle := rfl

theorem v75_apply (r : Fin 16384) (h : Fin 8) (d : Fin 32) :
    val_main_v75 (F := Ideal) x g w (ix3 r h d)
      = val_main_v52 (F := Ideal) x g w (ix3 r h ⟨d.val, by omega⟩) * Ideal.cos (angle (ix2 r d))
        - val_main_v52 (F := Ideal) x g w (ix3 r h ⟨32 + d.val, by omega⟩) * Ideal.sin (angle (ix2 r d)) := by
  rw [← v64_eq]
  pointwise [val_main_v75, val_main_v74, val_main_v73, val_main_v72, val_main_v71, val_main_v70, val_main_v69, val_main_v68, val_main_v67,
    val_main_v66, val_main_v65]

theorem v80_apply (r : Fin 16384) (h : Fin 8) (d : Fin 32) :
    val_main_v80 (F := Ideal) x g w (ix3 r h d)
      = val_main_v52 (F := Ideal) x g w (ix3 r h ⟨32 + d.val, by omega⟩) * Ideal.cos (angle (ix2 r d))
        + val_main_v52 (F := Ideal) x g w (ix3 r h ⟨d.val, by omega⟩) * Ideal.sin (angle (ix2 r d)) := by
  rw [← v64_eq]
  pointwise [val_main_v80, val_main_v79, val_main_v78, val_main_v77, val_main_v76, val_main_v70, val_main_v69, val_main_v68, val_main_v67,
    val_main_v66, val_main_v65]

/-- A row's queries before the reshape: an entry of a head's first half, and one of its second. -/
theorem v50_lo (r : Fin 16384) (h : Fin 8) (d : Fin 64) (d' : Fin 32) (hd : d.val = d'.val) :
    val_main_v50 (F := Ideal) x g w (ix3 r h d) = val_main_v44 (F := Ideal) x g w (ix3 r h d') := by
  unfold val_main_v50
  exact concatenate_pair_apply_left (t := S16384x8x64) (s₁ := S16384x8x32) (s₂ := S16384x8x32) 2 (val_main_v44 (F := Ideal) x g w)
    (val_main_v49 (F := Ideal) x g w) Facts₀.concatenates_S16384x8x32_S16384x8x32_S16384x8x64_d2 (ix3 r h d) rfl (ix3 r h d') fun b => match b with
    | ⟨0, _⟩ => rfl
    | ⟨1, _⟩ => rfl
    | ⟨2, _⟩ => hd.symm

theorem v50_hi (r : Fin 16384) (h : Fin 8) (d : Fin 64) (d' : Fin 32) (hd : d.val = 32 + d'.val) :
    val_main_v50 (F := Ideal) x g w (ix3 r h d) = val_main_v49 (F := Ideal) x g w (ix3 r h d') := by
  unfold val_main_v50
  exact concatenate_pair_apply_right (t := S16384x8x64) (s₁ := S16384x8x32) (s₂ := S16384x8x32) 2 (val_main_v44 (F := Ideal) x g w)
    (val_main_v49 (F := Ideal) x g w) Facts₀.concatenates_S16384x8x32_S16384x8x32_S16384x8x64_d2 (ix3 r h d) rfl rfl (ix3 r h d') (fun b hb => match b, hb with
    | ⟨0, _⟩, _ => rfl
    | ⟨1, _⟩, _ => rfl
    | ⟨2, _⟩, hb => absurd rfl hb) (by show d'.val + 32 = d.val; omega)

theorem v51_at (r : Fin 16384) (n : Fin 512) :
    val_main_v51 (F := Ideal) x g w (ix2 r n)
      = val_main_v50 (F := Ideal) x g w (ix3 r ⟨n.val / 64, by omega⟩ ⟨n.val % 64, by omega⟩) := by
  rw [val_main_v51_apply]
  exact congrArg (val_main_v50 (F := Ideal) x g w) (funext fun a => Fin.ext (by
    match a with
    | ⟨0, _⟩ => show (r.val * 512 + n.val) / 512 = r.val; omega
    | ⟨1, _⟩ => show (r.val * 512 + n.val) / 64 % 8 = n.val / 64; omega
    | ⟨2, _⟩ => show (r.val * 512 + n.val) % 64 = n.val % 64; omega))

/-- A row's queries: an entry of a head's first half. -/
theorem queries_lo (r : Fin 16384) (n : Fin 512) (hn : n.val % 64 < 32) :
    val_main_v51 (F := Ideal) x g w (ix2 r n)
      = proj x g w r ⟨n.val, by omega⟩ * Ideal.cos (angle (ix2 r ⟨n.val % 32, by omega⟩))
        + proj x g w r ⟨n.val + 32, by omega⟩ * -Ideal.sin (angle (ix2 r ⟨n.val % 32, by omega⟩)) := by
  rw [v51_at, v50_lo x g w r _ _ ⟨n.val % 32, by omega⟩ (by show n.val % 64 = n.val % 32; omega), v44_apply, v21_apply, v21_apply, mul_neg,
    sub_eq_add_neg]
  refine congrArg₂ (fun a b => a * _ + -(b * _)) (congrArg (proj x g w r) (Fin.ext ?_)) (congrArg (proj x g w r) (Fin.ext ?_))
  · show (n.val / 64 * 64 + n.val % 32) = n.val; omega
  · show (n.val / 64 * 64 + (32 + n.val % 32)) = (n.val + 32); omega

/-- A row's queries: an entry of a head's second half. -/
theorem queries_hi (r : Fin 16384) (n : Fin 512) (hn : ¬ n.val % 64 < 32) :
    val_main_v51 (F := Ideal) x g w (ix2 r n)
      = proj x g w r ⟨n.val, by omega⟩ * Ideal.cos (angle (ix2 r ⟨n.val % 32, by omega⟩))
        + proj x g w r ⟨n.val - 32, by omega⟩ * Ideal.sin (angle (ix2 r ⟨n.val % 32, by omega⟩)) := by
  rw [v51_at, v50_hi x g w r _ _ ⟨n.val % 32, by omega⟩ (by show n.val % 64 = 32 + n.val % 32; omega), v49_apply, v21_apply, v21_apply]
  refine congrArg₂ (fun a b => a * _ + b * _) (congrArg (proj x g w r) (Fin.ext ?_)) (congrArg (proj x g w r) (Fin.ext ?_))
  · show (n.val / 64 * 64 + (32 + n.val % 32)) = n.val; omega
  · show (n.val / 64 * 64 + n.val % 32) = (n.val - 32); omega

/-- A row's keys before the reshape: an entry of a head's first half, and one of its second. -/
theorem v81_lo (r : Fin 16384) (h : Fin 8) (d : Fin 64) (d' : Fin 32) (hd : d.val = d'.val) :
    val_main_v81 (F := Ideal) x g w (ix3 r h d) = val_main_v75 (F := Ideal) x g w (ix3 r h d') := by
  unfold val_main_v81
  exact concatenate_pair_apply_left (t := S16384x8x64) (s₁ := S16384x8x32) (s₂ := S16384x8x32) 2 (val_main_v75 (F := Ideal) x g w)
    (val_main_v80 (F := Ideal) x g w) Facts₀.concatenates_S16384x8x32_S16384x8x32_S16384x8x64_d2 (ix3 r h d) rfl (ix3 r h d') fun b => match b with
    | ⟨0, _⟩ => rfl
    | ⟨1, _⟩ => rfl
    | ⟨2, _⟩ => hd.symm

theorem v81_hi (r : Fin 16384) (h : Fin 8) (d : Fin 64) (d' : Fin 32) (hd : d.val = 32 + d'.val) :
    val_main_v81 (F := Ideal) x g w (ix3 r h d) = val_main_v80 (F := Ideal) x g w (ix3 r h d') := by
  unfold val_main_v81
  exact concatenate_pair_apply_right (t := S16384x8x64) (s₁ := S16384x8x32) (s₂ := S16384x8x32) 2 (val_main_v75 (F := Ideal) x g w)
    (val_main_v80 (F := Ideal) x g w) Facts₀.concatenates_S16384x8x32_S16384x8x32_S16384x8x64_d2 (ix3 r h d) rfl rfl (ix3 r h d') (fun b hb => match b, hb with
    | ⟨0, _⟩, _ => rfl
    | ⟨1, _⟩, _ => rfl
    | ⟨2, _⟩, hb => absurd rfl hb) (by show d'.val + 32 = d.val; omega)

theorem v82_at (r : Fin 16384) (n : Fin 512) :
    val_main_v82 (F := Ideal) x g w (ix2 r n)
      = val_main_v81 (F := Ideal) x g w (ix3 r ⟨n.val / 64, by omega⟩ ⟨n.val % 64, by omega⟩) := by
  rw [val_main_v82_apply]
  exact congrArg (val_main_v81 (F := Ideal) x g w) (funext fun a => Fin.ext (by
    match a with
    | ⟨0, _⟩ => show (r.val * 512 + n.val) / 512 = r.val; omega
    | ⟨1, _⟩ => show (r.val * 512 + n.val) / 64 % 8 = n.val / 64; omega
    | ⟨2, _⟩ => show (r.val * 512 + n.val) % 64 = n.val % 64; omega))

/-- A row's keys: an entry of a head's first half. -/
theorem keys_lo (r : Fin 16384) (n : Fin 512) (hn : n.val % 64 < 32) :
    val_main_v82 (F := Ideal) x g w (ix2 r n)
      = proj x g w r ⟨512 + (n.val), by omega⟩ * Ideal.cos (angle (ix2 r ⟨n.val % 32, by omega⟩))
        + proj x g w r ⟨512 + (n.val + 32), by omega⟩ * -Ideal.sin (angle (ix2 r ⟨n.val % 32, by omega⟩)) := by
  rw [v82_at, v81_lo x g w r _ _ ⟨n.val % 32, by omega⟩ (by show n.val % 64 = n.val % 32; omega), v75_apply, v52_apply, v52_apply, mul_neg,
    sub_eq_add_neg]
  refine congrArg₂ (fun a b => a * _ + -(b * _)) (congrArg (proj x g w r) (Fin.ext ?_)) (congrArg (proj x g w r) (Fin.ext ?_))
  · show 512 + (n.val / 64 * 64 + n.val % 32) = 512 + n.val; omega
  · show 512 + (n.val / 64 * 64 + (32 + n.val % 32)) = 512 + (n.val + 32); omega

/-- A row's keys: an entry of a head's second half. -/
theorem keys_hi (r : Fin 16384) (n : Fin 512) (hn : ¬ n.val % 64 < 32) :
    val_main_v82 (F := Ideal) x g w (ix2 r n)
      = proj x g w r ⟨512 + (n.val), by omega⟩ * Ideal.cos (angle (ix2 r ⟨n.val % 32, by omega⟩))
        + proj x g w r ⟨512 + (n.val - 32), by omega⟩ * Ideal.sin (angle (ix2 r ⟨n.val % 32, by omega⟩)) := by
  rw [v82_at, v81_hi x g w r _ _ ⟨n.val % 32, by omega⟩ (by show n.val % 64 = 32 + n.val % 32; omega), v80_apply, v52_apply, v52_apply]
  refine congrArg₂ (fun a b => a * _ + b * _) (congrArg (proj x g w r) (Fin.ext ?_)) (congrArg (proj x g w r) (Fin.ext ?_))
  · show 512 + (n.val / 64 * 64 + (32 + n.val % 32)) = 512 + n.val; omega
  · show 512 + (n.val / 64 * 64 + n.val % 32) = 512 + (n.val - 32); omega

end Cert.Reference2Ideal.InProj
-- ==== Proof.Rows.lean ====
/- Blocks of an array's rows: where an entry of a block lies in the array. -/
module

public import Idealize.ShloMosaic.Lib.Pipeline.Value
public import Idealize.ShloMosaic.Lib.ValueIdxCore
public import Idealize.ShloMosaic.Lib.Pointwise

@[expose] public section

noncomputable section

namespace Cert.Rows

open Idealize.ShloMosaic Idealize.ShloMosaic.TcCoe

theorem one_block {S : Shape} (a : Fin S.rank) : ((fun _ => 0 : Fin S.rank → ℕ) a + 1) * S.size a ≤ S.size a :=
  le_of_eq (Nat.one_mul _)

/-- A block that is the whole array puts its entries where they are. -/
theorem whole_emb {S : Shape} (x : Fin S.rank → ℕ) (hx : ∀ a, (x a + 1) * S.size a ≤ S.size a) (j : S.Idx) :
    (Rect.block (s := S) S.size x hx).emb j = j := by
  refine funext fun a => Fin.ext ?_
  have h0 : x a = 0 := by
    have h := hx a
    have hj : (j a).val < S.size a := (j a).isLt
    rcases Nat.eq_zero_or_pos (x a) with h' | h'
    · exact h'
    · have : 2 * S.size a ≤ (x a + 1) * S.size a := Nat.mul_le_mul_right _ (by omega)
      omega
  show x a * S.size a + 1 * (j a).val = (j a).val
  rw [h0]; omega

/-- Block `b` of `T` rows puts its row `p` at row `b * T + p`. -/
theorem rows_emb {N T C : Nat} (x : Fin 2 → ℕ) (hx : ∀ a, (x a + 1) * (⟨2, ![T, C]⟩ : Shape).size a ≤ (⟨2, ![N, C]⟩ : Shape).size a)
    (b : ℕ) (h0 : x 0 = b) (h1 : x 1 = 0) (p : Fin T) (k : Fin C) (r : Fin N) (hr : r.val = b * T + p.val) :
    (Rect.block (s := ⟨2, ![N, C]⟩) (⟨2, ![T, C]⟩ : Shape).size x hx).emb (ix2 p k) = ix2 r k := by
  refine funext fun a => Fin.ext ?_
  match a with
  | ⟨0, _⟩ => show x 0 * T + 1 * p.val = r.val; rw [h0]; omega
  | ⟨1, _⟩ => show x 1 * C + 1 * k.val = k.val; rw [h1]; omega

/-- The same of a stack of matrices whose blocks hold `T` rows of each. -/
theorem stack_emb {K N T C : Nat} (x : Fin 3 → ℕ)
    (hx : ∀ a, (x a + 1) * (⟨3, ![K, T, C]⟩ : Shape).size a ≤ (⟨3, ![K, N, C]⟩ : Shape).size a)
    (b : ℕ) (h0 : x 0 = 0) (h1 : x 1 = b) (h2 : x 2 = 0) (q : Fin K) (p : Fin T) (k : Fin C) (r : Fin N) (hr : r.val = b * T + p.val) :
    (Rect.block (s := ⟨3, ![K, N, C]⟩) (⟨3, ![K, T, C]⟩ : Shape).size x hx).emb (ix3 q p k) = ix3 q r k := by
  refine funext fun a => Fin.ext ?_
  match a with
  | ⟨0, _⟩ => show x 0 * K + 1 * q.val = q.val; rw [h0]; omega
  | ⟨1, _⟩ => show x 1 * T + 1 * p.val = r.val; rw [h1]; omega
  | ⟨2, _⟩ => show x 2 * C + 1 * k.val = k.val; rw [h2]; omega

end Cert.Rows
-- ==== Proof.InProj.lean ====
/- The projection of the tokens: each block of the kernel is the reference's rows. -/
module

public import proofs.«01_k».proof.Defs
public import proofs.«01_k».proof.Proof.Gen.Kernel2Ideal.Value
public import proofs.«01_k».proof.Proof.Gen.Reference2Ideal.Run
public import proofs.«01_k».proof.Proof.InProjOut
public import proofs.«01_k».proof.Proof.InProjRef
public import proofs.«01_k».proof.Proof.Rows
public import Idealize.ShloMosaic.Lib.Quiescent
public import Idealize.ShloMosaic.Lib.Pointwise
public import Idealize.ShloMosaic.Lib.ValueIdxCore

@[expose] public section

set_option maxRecDepth 16384

noncomputable section

namespace Cert.Kernel2Ideal.InProj

open Cert.Kernel2Ideal Cert.Kernel2Ideal.Gen Cert.Reference2Ideal.Read
open Idealize.ShloMosaic Idealize.ShloMosaic.TcCoe Idealize.SL.Sem

/-! ## The tables -/

/-- A table of 128 lanes made of two heads, each of two halves of 32 lanes. -/
def table (a b : FVec Ideal S16384x32 .f32) : FVec Ideal S16384x128 .f32 :=
  shapeCast S16384x128 (broadcastInDim S1x16384x2x64 ![0, 1, 2, 3] Facts₀.bcast_S1x16384x1x64_S1x16384x2x64_0_1_2_3
    (shapeCast S1x16384x1x64 (concatenate S16384x64 1 [⟨S16384x32, a⟩, ⟨S16384x32, b⟩]
      Facts₀.concatenates_S16384x32_S16384x32_S16384x64_d1) Facts₀.shapeCasts_S16384x64_S1x16384x1x64))
    Facts₀.shapeCasts_S1x16384x2x64_S16384x128

theorem table_at (a b : FVec Ideal S16384x32 .f32) (r : Fin 16384) (l : Fin 128) :
    table a b (ix2 r l) = concatenate S16384x64 1 [⟨S16384x32, a⟩, ⟨S16384x32, b⟩]
      Facts₀.concatenates_S16384x32_S16384x32_S16384x64_d1 (ix2 r ⟨l.val % 64, by omega⟩) := by
  unfold table
  generalize concatenate S16384x64 1 [⟨S16384x32, a⟩, ⟨S16384x32, b⟩] Facts₀.concatenates_S16384x32_S16384x32_S16384x64_d1 = y
  refine (shapeCast_apply _ _ (ix2 r l) (ix4 (0 : Fin 1) r (⟨l.val / 64, by omega⟩ : Fin 2) (⟨l.val % 64, by omega⟩ : Fin 64)) ?_).trans ?_
  · rw [Shape.rowMajor_val_four, Shape.rowMajor_val_two]
    show ((0 * 16384 + r.val) * 2 + l.val / 64) * 64 + l.val % 64 = r.val * 128 + l.val
    omega
  refine (broadcastInDim_apply _ _ _ _ (ix4 (0 : Fin 1) r (0 : Fin 1) (⟨l.val % 64, by omega⟩ : Fin 64)) fun a => ?_).trans ?_
  · match a with
    | ⟨0, _⟩ => rfl
    | ⟨1, _⟩ => rfl
    | ⟨2, _⟩ => rfl
    | ⟨3, _⟩ => rfl
  refine shapeCast_apply _ _ _ (ix2 r (⟨l.val % 64, by omega⟩ : Fin 64)) ?_
  rw [Shape.rowMajor_val_two, Shape.rowMajor_val_four]
  show r.val * 64 + l.val % 64 = ((0 * 16384 + r.val) * 1 + 0) * 64 + l.val % 64
  omega

theorem table_lo (a b : FVec Ideal S16384x32 .f32) (r : Fin 16384) (l : Fin 128) (hl : l.val % 64 < 32) :
    table a b (ix2 r l) = a (ix2 r ⟨l.val % 32, by omega⟩) := by
  rw [table_at]
  exact concatenate_pair_apply_left (t := S16384x64) (s₁ := S16384x32) (s₂ := S16384x32) 1 a b
    Facts₀.concatenates_S16384x32_S16384x32_S16384x64_d1 (ix2 r ⟨l.val % 64, by omega⟩) rfl (ix2 r ⟨l.val % 32, by omega⟩)
    fun k => match k with
    | ⟨0, _⟩ => rfl
    | ⟨1, _⟩ => by show l.val % 32 = l.val % 64; omega

theorem table_hi (a b : FVec Ideal S16384x32 .f32) (r : Fin 16384) (l : Fin 128) (hl : ¬ l.val % 64 < 32) :
    table a b (ix2 r l) = b (ix2 r ⟨l.val % 32, by omega⟩) := by
  rw [table_at]
  exact concatenate_pair_apply_right (t := S16384x64) (s₁ := S16384x32) (s₂ := S16384x32) 1 a b
    Facts₀.concatenates_S16384x32_S16384x32_S16384x64_d1 (ix2 r ⟨l.val % 64, by omega⟩) rfl rfl (ix2 r ⟨l.val % 32, by omega⟩)
    (fun k hk => match k, hk with
    | ⟨0, _⟩, _ => rfl
    | ⟨1, _⟩, hk => absurd rfl hk) (by show l.val % 32 + 32 = l.val % 64; omega)

/-- An entry turned: of a head's first half. -/
theorem turned_lo (x0 : Vec Ideal S512x1024 .f32) (x1 : Vec Ideal S1x1024 .f32) (x2 : Vec Ideal S1024x6144 .bf16) (x3 x4 : Vec Ideal S512x128 .f32)
    (o : ℕ) (ho : o + 512 ≤ 6144) (p n : Fin 512) (hn : n.val % 64 < 32) :
    turned x0 x1 x2 x3 x4 o ho p n = proj x0 x1 x2 p ⟨o + n.val, by omega⟩ * x3 (ix2 p ⟨n.val % 128, by omega⟩)
      + proj x0 x1 x2 p ⟨o + (n.val + 32), by omega⟩ * x4 (ix2 p ⟨n.val % 128, by omega⟩) := by
  unfold turned turn
  rw [if_pos (by show n.val % 128 % 64 < 32; omega)]
  refine congrArg₂ (fun a b => a * _ + b * _) (congrArg (proj x0 x1 x2 p) (Fin.ext ?_)) (congrArg (proj x0 x1 x2 p) (Fin.ext ?_))
  · show o + (n.val / 128 * 128 + n.val % 128) = o + n.val; omega
  · show o + (n.val / 128 * 128 + (n.val % 128 + 32) % 128) = o + (n.val + 32); omega

/-- An entry turned: of a head's second half. -/
theorem turned_hi (x0 : Vec Ideal S512x1024 .f32) (x1 : Vec Ideal S1x1024 .f32) (x2 : Vec Ideal S1024x6144 .bf16) (x3 x4 : Vec Ideal S512x128 .f32)
    (o : ℕ) (ho : o + 512 ≤ 6144) (p n : Fin 512) (hn : ¬ n.val % 64 < 32) :
    turned x0 x1 x2 x3 x4 o ho p n = proj x0 x1 x2 p ⟨o + n.val, by omega⟩ * x3 (ix2 p ⟨n.val % 128, by omega⟩)
      + proj x0 x1 x2 p ⟨o + (n.val - 32), by omega⟩ * x4 (ix2 p ⟨n.val % 128, by omega⟩) := by
  unfold turned turn
  rw [if_neg (by show ¬ n.val % 128 % 64 < 32; omega)]
  refine congrArg₂ (fun a b => a * _ + b * _) (congrArg (proj x0 x1 x2 p) (Fin.ext ?_)) (congrArg (proj x0 x1 x2 p) (Fin.ext ?_))
  · show o + (n.val / 128 * 128 + n.val % 128) = o + n.val; omega
  · show o + (n.val / 128 * 128 + (n.val % 128 + 96) % 128) = o + (n.val - 32); omega

/-! ## The kernel's arrays before its first block -/

variable (m : (ℓ : Loc nD τ sig) → Buf (Elt Ideal) ℓ) (c : Dev nD)

/-- The tokens, the norm's weights and the projection's weights. -/
abbrev X : Vec Ideal S16384x1024 .f32 := m ((c : Thread nD τ).loc main_arg0)
abbrev Gw : Vec Ideal S1024 .f32 := m ((c : Thread nD τ).loc main_arg1)
abbrev W : Vec Ideal S1024x6144 .f32 := m ((c : Thread nD τ).loc main_arg2)

theorem V_v18 : V m c main_v18 = table (val_main_v34 (F := Ideal)) (val_main_v34 (F := Ideal)) := by
  unfold V; after_results; rfl
theorem V_v23 : V m c main_v23 = table (negf (val_main_v36 (F := Ideal))) (val_main_v36 (F := Ideal)) := by
  unfold V; after_results; rfl
theorem V_v24 : V m c main_v24 = (W m c : S1024x6144.Idx → EReal) := by
  unfold V; after_results; rfl
theorem V_v25 : V m c main_v25 = shapeCast S1x1024 (Gw m c) Facts₀.shapeCasts_S1024_S1x1024 := by
  unfold V; after_results; rfl

theorem coord (t : Fin cfg0.N) : ((grid0.coords t) 0).val = t.val :=
  (Pipeline.Grid.coords_val t 0 (by decide : grid0.stride 0 = 1) rfl).trans
    (by rw [Nat.div_one]; exact Nat.mod_eq_of_lt (lt_of_lt_of_eq t.isLt N_0))

theorem idx0 (i : grid0.Coords) : (BitVec.ofNat 32 (i 0).val).toNat = (i 0).val := by
  have h : (i 0).val < 32 := (i 0).isLt
  rw [BitVec.toNat_ofNat, Nat.mod_eq_of_lt (by omega)]

/-- The reference's queries over the entry arguments. -/
abbrev want5 : S16384x512.Idx → EReal := val_main_v85 (F := Ideal) (X m c) (Gw m c) (W m c)
/-- The reference's keys over the entry arguments. -/
abbrev want6 : S16384x512.Idx → EReal := val_main_v82 (F := Ideal) (X m c) (Gw m c) (W m c)
/-- The reference's values over the entry arguments. -/
abbrev want7 : S16384x512.Idx → EReal := val_main_v16 (F := Ideal) (X m c) (Gw m c) (W m c)
/-- The reference's gated values over the entry arguments. -/
abbrev want8 : S16384x512.Idx → EReal := val_main_v92 (F := Ideal) (X m c) (Gw m c) (W m c)
/-- The reference's memory queries over the entry arguments. -/
abbrev want9 : S16384x512.Idx → EReal := val_main_v95 (F := Ideal) (X m c) (Gw m c) (W m c)
/-- The reference's gates over the entry arguments. -/
abbrev want10 : S16384x3072.Idx → EReal := val_main_v101 (F := Ideal) (X m c) (Gw m c) (W m c)

variable (t : Fin cfg0.N) (p : Fin 512) (r : Fin 16384) (hr : r.val = t.val * 512 + p.val)

theorem iblk1_at (k : Fin 1024) : iblk m c 1 t (ix2 (0 : Fin 1) k : S1x1024.Idx) = Gw m c (ix1 k) := by
  refine ((congrArg (V m c main_v25) (Rows.whole_emb (S := S1x1024) _ (hinb0_1 (grid0.coords t)) (ix2 (0 : Fin 1) k))).trans
    (congrFun (V_v25 m c) _)).trans ?_
  pointwise []
theorem iblk2_at (k : Fin 1024) (n : Fin 6144) : iblk m c 2 t (ix2 k n : S1024x6144.Idx) = W m c (ix2 k n) :=
  (congrArg (V m c main_v24) (Rows.whole_emb (S := S1024x6144) _ (hinb0_2 (grid0.coords t)) (ix2 k n))).trans (congrFun (V_v24 m c) _)

include hr

theorem iblk0_at (k : Fin 1024) : iblk m c 0 t (ix2 p k : S512x1024.Idx) = X m c (ix2 r k) :=
  (congrArg (V m c main_arg0) (Rows.rows_emb _ (hinb0_0 (grid0.coords t)) t.val ((idx0 _).trans (coord t)) rfl p k r hr)).trans
    (congrFun (V_main_arg0 m c) _)
theorem iblk3_at (k : Fin 128) :
    iblk m c 3 t (ix2 p k : S512x128.Idx) = table (val_main_v34 (F := Ideal)) (val_main_v34 (F := Ideal)) (ix2 r k) :=
  (congrArg (V m c main_v18) (Rows.rows_emb _ (hinb0_3 (grid0.coords t)) t.val ((idx0 _).trans (coord t)) rfl p k r hr)).trans
    (congrFun (V_v18 m c) _)
theorem iblk4_at (k : Fin 128) :
    iblk m c 4 t (ix2 p k : S512x128.Idx) = table (negf (val_main_v36 (F := Ideal))) (val_main_v36 (F := Ideal)) (ix2 r k) :=
  (congrArg (V m c main_v23) (Rows.rows_emb _ (hinb0_4 (grid0.coords t)) t.val ((idx0 _).trans (coord t)) rfl p k r hr)).trans
    (congrFun (V_v23 m c) _)

/-- A block's projection is the reference's. -/
theorem proj_at (n : Fin 6144) :
    proj (iblk m c 0 t) (iblk m c 1 t) (iblk m c 2 t) p n = Cert.Reference2Ideal.InProj.proj (X m c) (Gw m c) (W m c) r n :=
  Finset.sum_congr rfl fun k _ => congrArg₂ (· * ·)
    (Norm.norm_congr (fun k => iblk0_at m c t p r hr k) (fun k => iblk1_at m c t k) k) (iblk2_at m c t k n)

/-! ## What a block of rows ends holding -/

theorem at7 (n : Fin 512) : G7 (iblk m c 0 t) (iblk m c 1 t) (iblk m c 2 t) (ix2 p n) = want7 m c (ix2 r n) :=
  (proj_at m c t p r hr _).trans (Cert.Reference2Ideal.InProj.values_apply _ _ _ r n).symm
theorem at8 (n : Fin 512) : G8 (iblk m c 0 t) (iblk m c 1 t) (iblk m c 2 t) (ix2 p n) = want8 m c (ix2 r n) :=
  (congrArg₂ (fun a b => a * Ideal.logistic b) (proj_at m c t p r hr _) (proj_at m c t p r hr _)).trans
    (Cert.Reference2Ideal.InProj.gated_apply _ _ _ r n).symm
theorem at9 (n : Fin 512) : G9 (iblk m c 0 t) (iblk m c 1 t) (iblk m c 2 t) (ix2 p n) = want9 m c (ix2 r n) :=
  (congrArg (fun a => a * Ideal.ofBits .f32 0x3DB504F3#32) (proj_at m c t p r hr _)).trans
    (Cert.Reference2Ideal.InProj.memory_queries_apply _ _ _ r n).symm
theorem at10 (n : Fin 3072) : G10 (iblk m c 0 t) (iblk m c 1 t) (iblk m c 2 t) (ix2 p n) = want10 m c (ix2 r n) :=
  (congrArg Ideal.logistic (proj_at m c t p r hr _)).trans (Cert.Reference2Ideal.InProj.gates_apply _ _ _ r n).symm

theorem at5 (n : Fin 512) :
    G5 (iblk m c 0 t) (iblk m c 1 t) (iblk m c 2 t) (iblk m c 3 t) (iblk m c 4 t) (ix2 p n) = want5 m c (ix2 r n) := by
  have hm : n.val % 128 % 64 = n.val % 64 := by omega
  have hq : (⟨n.val % 128 % 32, by omega⟩ : Fin 32) = ⟨n.val % 32, by omega⟩ := Fin.ext (by show n.val % 128 % 32 = n.val % 32; omega)
  by_cases hn : n.val % 64 < 32
  · refine (turned_lo _ _ _ _ _ 0 (by omega) p n hn).trans (Eq.trans ?_ (Cert.Reference2Ideal.InProj.queries_lo _ _ _ r n hn).symm)
    rw [iblk3_at m c t p r hr, iblk4_at m c t p r hr, table_lo _ _ _ _ (by show n.val % 128 % 64 < 32; omega),
      table_lo _ _ _ _ (by show n.val % 128 % 64 < 32; omega)]
    simp only [hq]
    exact congrArg₂ (fun a b => a * _ + b * _) ((proj_at m c t p r hr _).trans (congrArg (Cert.Reference2Ideal.InProj.proj (X m c) (Gw m c) (W m c) r) (Fin.ext (Nat.zero_add _)))) ((proj_at m c t p r hr _).trans (congrArg (Cert.Reference2Ideal.InProj.proj (X m c) (Gw m c) (W m c) r) (Fin.ext (Nat.zero_add _))))
  · refine (turned_hi _ _ _ _ _ 0 (by omega) p n hn).trans (Eq.trans ?_ (Cert.Reference2Ideal.InProj.queries_hi _ _ _ r n hn).symm)
    rw [iblk3_at m c t p r hr, iblk4_at m c t p r hr, table_hi _ _ _ _ (by show ¬ n.val % 128 % 64 < 32; omega),
      table_hi _ _ _ _ (by show ¬ n.val % 128 % 64 < 32; omega)]
    simp only [hq]
    exact congrArg₂ (fun a b => a * _ + b * _) ((proj_at m c t p r hr _).trans (congrArg (Cert.Reference2Ideal.InProj.proj (X m c) (Gw m c) (W m c) r) (Fin.ext (Nat.zero_add _)))) ((proj_at m c t p r hr _).trans (congrArg (Cert.Reference2Ideal.InProj.proj (X m c) (Gw m c) (W m c) r) (Fin.ext (Nat.zero_add _))))

theorem at6 (n : Fin 512) :
    G6 (iblk m c 0 t) (iblk m c 1 t) (iblk m c 2 t) (iblk m c 3 t) (iblk m c 4 t) (ix2 p n) = want6 m c (ix2 r n) := by
  have hm : n.val % 128 % 64 = n.val % 64 := by omega
  have hq : (⟨n.val % 128 % 32, by omega⟩ : Fin 32) = ⟨n.val % 32, by omega⟩ := Fin.ext (by show n.val % 128 % 32 = n.val % 32; omega)
  by_cases hn : n.val % 64 < 32
  · refine (turned_lo _ _ _ _ _ 512 (by omega) p n hn).trans (Eq.trans ?_ (Cert.Reference2Ideal.InProj.keys_lo _ _ _ r n hn).symm)
    rw [iblk3_at m c t p r hr, iblk4_at m c t p r hr, table_lo _ _ _ _ (by show n.val % 128 % 64 < 32; omega),
      table_lo _ _ _ _ (by show n.val % 128 % 64 < 32; omega)]
    simp only [hq]
    exact congrArg₂ (fun a b => a * _ + b * _) (proj_at m c t p r hr _) (proj_at m c t p r hr _)
  · refine (turned_hi _ _ _ _ _ 512 (by omega) p n hn).trans (Eq.trans ?_ (Cert.Reference2Ideal.InProj.keys_hi _ _ _ r n hn).symm)
    rw [iblk3_at m c t p r hr, iblk4_at m c t p r hr, table_hi _ _ _ _ (by show ¬ n.val % 128 % 64 < 32; omega),
      table_hi _ _ _ _ (by show ¬ n.val % 128 % 64 < 32; omega)]
    simp only [hq]
    exact congrArg₂ (fun a b => a * _ + b * _) (proj_at m c t p r hr _) (proj_at m c t p r hr _)

/-! ## Where the blocks lie -/

theorem emb5 (n : Fin 512) : ((cfg0.win 5).blk t).view.emb (ix2 p n : S512x512.Idx) = ix2 r n :=
  Rows.rows_emb _ (hinb0_5 (grid0.coords t)) t.val ((idx0 _).trans (coord t)) rfl p n r hr
theorem mem5 (n : Fin 512) : (ix2 r n : S16384x512.Idx) ∈ ((cfg0.win 5).blk t).view.set := by
  have h := View.emb_mem_set ((cfg0.win 5).blk t).view (ix2 p n : S512x512.Idx)
  exact emb5 t p r hr n ▸ h
theorem emb6 (n : Fin 512) : ((cfg0.win 6).blk t).view.emb (ix2 p n : S512x512.Idx) = ix2 r n :=
  Rows.rows_emb _ (hinb0_6 (grid0.coords t)) t.val ((idx0 _).trans (coord t)) rfl p n r hr
theorem mem6 (n : Fin 512) : (ix2 r n : S16384x512.Idx) ∈ ((cfg0.win 6).blk t).view.set := by
  have h := View.emb_mem_set ((cfg0.win 6).blk t).view (ix2 p n : S512x512.Idx)
  exact emb6 t p r hr n ▸ h
theorem emb7 (n : Fin 512) : ((cfg0.win 7).blk t).view.emb (ix2 p n : S512x512.Idx) = ix2 r n :=
  Rows.rows_emb _ (hinb0_7 (grid0.coords t)) t.val ((idx0 _).trans (coord t)) rfl p n r hr
theorem mem7 (n : Fin 512) : (ix2 r n : S16384x512.Idx) ∈ ((cfg0.win 7).blk t).view.set := by
  have h := View.emb_mem_set ((cfg0.win 7).blk t).view (ix2 p n : S512x512.Idx)
  exact emb7 t p r hr n ▸ h
theorem emb8 (n : Fin 512) : ((cfg0.win 8).blk t).view.emb (ix2 p n : S512x512.Idx) = ix2 r n :=
  Rows.rows_emb _ (hinb0_8 (grid0.coords t)) t.val ((idx0 _).trans (coord t)) rfl p n r hr
theorem mem8 (n : Fin 512) : (ix2 r n : S16384x512.Idx) ∈ ((cfg0.win 8).blk t).view.set := by
  have h := View.emb_mem_set ((cfg0.win 8).blk t).view (ix2 p n : S512x512.Idx)
  exact emb8 t p r hr n ▸ h
theorem emb9 (n : Fin 512) : ((cfg0.win 9).blk t).view.emb (ix2 p n : S512x512.Idx) = ix2 r n :=
  Rows.rows_emb _ (hinb0_9 (grid0.coords t)) t.val ((idx0 _).trans (coord t)) rfl p n r hr
theorem mem9 (n : Fin 512) : (ix2 r n : S16384x512.Idx) ∈ ((cfg0.win 9).blk t).view.set := by
  have h := View.emb_mem_set ((cfg0.win 9).blk t).view (ix2 p n : S512x512.Idx)
  exact emb9 t p r hr n ▸ h
theorem emb10 (n : Fin 3072) : ((cfg0.win 10).blk t).view.emb (ix2 p n : S512x3072.Idx) = ix2 r n :=
  Rows.rows_emb _ (hinb0_10 (grid0.coords t)) t.val ((idx0 _).trans (coord t)) rfl p n r hr
theorem mem10 (n : Fin 3072) : (ix2 r n : S16384x3072.Idx) ∈ ((cfg0.win 10).blk t).view.set := by
  have h := View.emb_mem_set ((cfg0.win 10).blk t).view (ix2 p n : S512x3072.Idx)
  exact emb10 t p r hr n ▸ h

omit t p r hr in
theorem row_of_point (t : Fin cfg0.N) (p : Fin 512) : ∃ r : Fin 16384, r.val = t.val * 512 + p.val := by
  have h : t.val < 32 := t.isLt
  exact ⟨⟨t.val * 512 + p.val, by omega⟩, rfl⟩

omit t p r hr in
theorem point_of_row (r : Fin 16384) : ∃ (t : Fin cfg0.N) (p : Fin 512), r.val = t.val * 512 + p.val :=
  ⟨(⟨r.val / 512, by omega⟩ : Fin 32), ⟨r.val % 512, by omega⟩, by show r.val = r.val / 512 * 512 + r.val % 512; omega⟩

omit t p r hr in
/-- The queries end holding the reference's. -/
theorem final5 : (dats m 0 c).arrAt 5 cfg0.N = want5 m c :=
  (dats m 0 c).arrAt_eq_of_cover 5 (want5 m c)
    (fun t _ => (Value.flushed5_A m c t).trans (by
      have key : ∀ j : S512x512.Idx, out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
          (iblk m c 0 t) (iblk m c 1 t) (iblk m c 2 t) (iblk m c 3 t) (iblk m c 4 t) j
          = want5 m c (((cfg0.win 5).blk t).view.emb j) := fun j => by
        obtain ⟨r, hr⟩ := row_of_point t (j 0)
        rw [out5_eq, eq_ix2 j]
        exact (at5 m c t (j 0) r hr (j 1)).trans (congrArg (want5 m c) (emb5 t (j 0) r hr (j 1))).symm
      exact funext fun j => key j))
    (fun i => by
      have key : ∀ i : S16384x512.Idx, ∃ t : Fin cfg0.N, (cfg0.win 5).flush t = true ∧ i ∈ ((cfg0.win 5).blk t).view.set := fun i => by
        obtain ⟨t, p, hr⟩ := point_of_row (i 0)
        rw [eq_ix2 i]
        exact ⟨t, flush0_5 t, mem5 t p (i 0) hr (i 1)⟩
      exact key i)

omit t p r hr in
/-- The keys end holding the reference's. -/
theorem final6 : (dats m 0 c).arrAt 6 cfg0.N = want6 m c :=
  (dats m 0 c).arrAt_eq_of_cover 6 (want6 m c)
    (fun t _ => (Value.flushed6_A m c t).trans (by
      have key : ∀ j : S512x512.Idx, out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
          (iblk m c 0 t) (iblk m c 1 t) (iblk m c 2 t) (iblk m c 3 t) (iblk m c 4 t) j
          = want6 m c (((cfg0.win 6).blk t).view.emb j) := fun j => by
        obtain ⟨r, hr⟩ := row_of_point t (j 0)
        rw [out6_eq, eq_ix2 j]
        exact (at6 m c t (j 0) r hr (j 1)).trans (congrArg (want6 m c) (emb6 t (j 0) r hr (j 1))).symm
      exact funext fun j => key j))
    (fun i => by
      have key : ∀ i : S16384x512.Idx, ∃ t : Fin cfg0.N, (cfg0.win 6).flush t = true ∧ i ∈ ((cfg0.win 6).blk t).view.set := fun i => by
        obtain ⟨t, p, hr⟩ := point_of_row (i 0)
        rw [eq_ix2 i]
        exact ⟨t, flush0_6 t, mem6 t p (i 0) hr (i 1)⟩
      exact key i)

omit t p r hr in
/-- The values end holding the reference's. -/
theorem final7 : (dats m 0 c).arrAt 7 cfg0.N = want7 m c :=
  (dats m 0 c).arrAt_eq_of_cover 7 (want7 m c)
    (fun t _ => (Value.flushed7_A m c t).trans (by
      have key : ∀ j : S512x512.Idx, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
          (iblk m c 0 t) (iblk m c 1 t) (iblk m c 2 t) (iblk m c 3 t) (iblk m c 4 t) j
          = want7 m c (((cfg0.win 7).blk t).view.emb j) := fun j => by
        obtain ⟨r, hr⟩ := row_of_point t (j 0)
        rw [out7_eq, eq_ix2 j]
        exact (at7 m c t (j 0) r hr (j 1)).trans (congrArg (want7 m c) (emb7 t (j 0) r hr (j 1))).symm
      exact funext fun j => key j))
    (fun i => by
      have key : ∀ i : S16384x512.Idx, ∃ t : Fin cfg0.N, (cfg0.win 7).flush t = true ∧ i ∈ ((cfg0.win 7).blk t).view.set := fun i => by
        obtain ⟨t, p, hr⟩ := point_of_row (i 0)
        rw [eq_ix2 i]
        exact ⟨t, flush0_7 t, mem7 t p (i 0) hr (i 1)⟩
      exact key i)

omit t p r hr in
/-- The gated values end holding the reference's. -/
theorem final8 : (dats m 0 c).arrAt 8 cfg0.N = want8 m c :=
  (dats m 0 c).arrAt_eq_of_cover 8 (want8 m c)
    (fun t _ => (Value.flushed8_A m c t).trans (by
      have key : ∀ j : S512x512.Idx, out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
          (iblk m c 0 t) (iblk m c 1 t) (iblk m c 2 t) (iblk m c 3 t) (iblk m c 4 t) j
          = want8 m c (((cfg0.win 8).blk t).view.emb j) := fun j => by
        obtain ⟨r, hr⟩ := row_of_point t (j 0)
        rw [out8_eq, eq_ix2 j]
        exact (at8 m c t (j 0) r hr (j 1)).trans (congrArg (want8 m c) (emb8 t (j 0) r hr (j 1))).symm
      exact funext fun j => key j))
    (fun i => by
      have key : ∀ i : S16384x512.Idx, ∃ t : Fin cfg0.N, (cfg0.win 8).flush t = true ∧ i ∈ ((cfg0.win 8).blk t).view.set := fun i => by
        obtain ⟨t, p, hr⟩ := point_of_row (i 0)
        rw [eq_ix2 i]
        exact ⟨t, flush0_8 t, mem8 t p (i 0) hr (i 1)⟩
      exact key i)

omit t p r hr in
/-- The memory queries end holding the reference's. -/
theorem final9 : (dats m 0 c).arrAt 9 cfg0.N = want9 m c :=
  (dats m 0 c).arrAt_eq_of_cover 9 (want9 m c)
    (fun t _ => (Value.flushed9_A m c t).trans (by
      have key : ∀ j : S512x512.Idx, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
          (iblk m c 0 t) (iblk m c 1 t) (iblk m c 2 t) (iblk m c 3 t) (iblk m c 4 t) j
          = want9 m c (((cfg0.win 9).blk t).view.emb j) := fun j => by
        obtain ⟨r, hr⟩ := row_of_point t (j 0)
        rw [out9_eq, eq_ix2 j]
        exact (at9 m c t (j 0) r hr (j 1)).trans (congrArg (want9 m c) (emb9 t (j 0) r hr (j 1))).symm
      exact funext fun j => key j))
    (fun i => by
      have key : ∀ i : S16384x512.Idx, ∃ t : Fin cfg0.N, (cfg0.win 9).flush t = true ∧ i ∈ ((cfg0.win 9).blk t).view.set := fun i => by
        obtain ⟨t, p, hr⟩ := point_of_row (i 0)
        rw [eq_ix2 i]
        exact ⟨t, flush0_9 t, mem9 t p (i 0) hr (i 1)⟩
      exact key i)

omit t p r hr in
/-- The gates end holding the reference's. -/
theorem final10 : (dats m 0 c).arrAt 10 cfg0.N = want10 m c :=
  (dats m 0 c).arrAt_eq_of_cover 10 (want10 m c)
    (fun t _ => (Value.flushed10_A m c t).trans (by
      have key : ∀ j : S512x3072.Idx, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
          (iblk m c 0 t) (iblk m c 1 t) (iblk m c 2 t) (iblk m c 3 t) (iblk m c 4 t) j
          = want10 m c (((cfg0.win 10).blk t).view.emb j) := fun j => by
        obtain ⟨r, hr⟩ := row_of_point t (j 0)
        rw [out10_eq, eq_ix2 j]
        exact (at10 m c t (j 0) r hr (j 1)).trans (congrArg (want10 m c) (emb10 t (j 0) r hr (j 1))).symm
      exact funext fun j => key j))
    (fun i => by
      have key : ∀ i : S16384x3072.Idx, ∃ t : Fin cfg0.N, (cfg0.win 10).flush t = true ∧ i ∈ ((cfg0.win 10).blk t).view.set := fun i => by
        obtain ⟨t, p, hr⟩ := point_of_row (i 0)
        rw [eq_ix2 i]
        exact ⟨t, flush0_10 t, mem10 t p (i 0) hr (i 1)⟩
      exact key i)

end Cert.Kernel2Ideal.InProj

namespace Cert.Proof

open Idealize.ShloMosaic Idealize.SL.Sem

theorem inproj_frame_reference : Cert.quiescent_Reference2Ideal := fun m g _ =>
  (θ_run Cert.Reference2Ideal.defs _ _).mono (fun r h => ⟨fun c => (h c).2.2.2.2.2.2, sem_eq_zero_of_no_sems rfl _⟩)
    (Cert.Reference2Ideal.Value.run m g)

/-- The projection is the reference's. -/
theorem in_projection : Cert.algebraic_Kernel2Ideal_Reference2Ideal := fun m g m' g' _ hag => by
  refine ⟨fun c => Cert.Kernel2Ideal.InProj.want5 m c, fun c => Cert.Kernel2Ideal.InProj.want6 m c, fun c => Cert.Kernel2Ideal.InProj.want7 m c,
    fun c => Cert.Kernel2Ideal.InProj.want8 m c, fun c => Cert.Kernel2Ideal.InProj.want9 m c, fun c => Cert.Kernel2Ideal.InProj.want10 m c, ?_, ?_⟩
  · exact (θ_run Cert.Kernel2Ideal.defs _ _).mono
      (fun r h c => by
        obtain ⟨h5, h6, h7, h8, h9, h10, _, _, _, ha⟩ := h c
        exact ⟨h5.trans (Cert.Kernel2Ideal.InProj.final5 m c), h6.trans (Cert.Kernel2Ideal.InProj.final6 m c),
          h7.trans (Cert.Kernel2Ideal.InProj.final7 m c), h8.trans (Cert.Kernel2Ideal.InProj.final8 m c),
          h9.trans (Cert.Kernel2Ideal.InProj.final9 m c), h10.trans (Cert.Kernel2Ideal.InProj.final10 m c), ha⟩)
      (Cert.Kernel2Ideal.Value.run_blocks m g)
  · refine (θ_run Cert.Reference2Ideal.defs _ _).mono (fun r h c => ?_) (Cert.Reference2Ideal.Value.run m' g')
    obtain ⟨e0, e1, e2⟩ := hag c
    obtain ⟨h0, h1, h2, h3, h4, h5, ha⟩ := h c
    refine ⟨h0.trans ?_, h1.trans ?_, h2.trans ?_, h3.trans ?_, h4.trans ?_, h5.trans ?_, ha⟩ <;>
      first
      | (rw [e0, e1, e2]; rfl)
      | (unfold Cert.Reference2Ideal.Value.res_main_v82; rw [e0, e1, e2]; rfl)
      | (unfold Cert.Reference2Ideal.Value.res_main_v85; rw [e0, e1, e2]; rfl)

end Cert.Proof
-- ==== Proof.MemKv.lean ====
/- The memory's keys and values: the kernel's one block is the reference. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Rows
public import Idealize.ShloMosaic.Lib.Quiescent
public import Idealize.ShloMosaic.Lib.Pointwise
public import Idealize.ShloMosaic.Lib.ValueIdxCore

@[expose] public section

set_option maxRecDepth 16384

noncomputable section

namespace Cert.Kernel3Ideal.Kv

open Cert.Kernel3Ideal Cert.Kernel3Ideal.Gen Cert.Reference3Ideal.Read
open Idealize.ShloMosaic Idealize.ShloMosaic.TcCoe Idealize.SL.Sem

/-- What the kernel stores is the reference at every entry: the normed row times the weights' column. -/
theorem pay_eq (x : Vec Ideal S256x1024 .f32) (g : Vec Ideal S1024 .f32) (w : Vec Ideal S1024x1024 .f32) (p : Fin 256) (n : Fin 1024) :
    k0_pay1 (F := Ideal) x (shapeCast S1x1024 g shapeCasts_S1024_S1x1024) w (ix2 p n)
      = val_main_v13 (F := Ideal) x g w (ix2 p n) := by
  pointwise [k0_pay1, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

variable (m : (ℓ : Loc nD τ sig) → Buf (Elt Ideal) ℓ) (c : Dev nD)

/-- The norm's weights with a unit axis. -/
theorem V_v0 : V m c main_v0 = shapeCast S1x1024 (m ((c : Thread nD τ).loc main_arg1)) shapeCasts_S1024_S1x1024 := by
  unfold V; after_results; rfl

/-- The reference's result over the entry arguments. -/
abbrev want : S256x1024.Idx → Ideal .f32 :=
  val_main_v13 (F := Ideal) (m ((c : Thread nD τ).loc main_arg0)) (m ((c : Thread nD τ).loc main_arg1)) (m ((c : Thread nD τ).loc main_arg2))

theorem blk0 (t : Fin cfg0.N) : iblk m c 0 t = m ((c : Thread nD τ).loc main_arg0) :=
  funext fun j => (congrArg (V m c main_arg0) (Rows.whole_emb (fun _ => 0) Rows.one_block j)).trans (congrFun (V_main_arg0 m c) j)
theorem blk1 (t : Fin cfg0.N) : iblk m c 1 t = shapeCast S1x1024 (m ((c : Thread nD τ).loc main_arg1)) shapeCasts_S1024_S1x1024 :=
  funext fun j => (congrArg (V m c main_v0) (Rows.whole_emb (fun _ => 0) Rows.one_block j)).trans (congrFun (V_v0 m c) j)
theorem blk2 (t : Fin cfg0.N) : iblk m c 2 t = m ((c : Thread nD τ).loc main_arg2) :=
  funext fun j => (congrArg (V m c main_arg2) (Rows.whole_emb (fun _ => 0) Rows.one_block j)).trans (congrFun (V_main_arg2 m c) j)

theorem zero2 : (![0, 0] : Fin 2 → ℕ) = fun _ => 0 := by decide

/-- What the kernel leaves in the result's block. -/
theorem out_eq (t : Fin cfg0.N) : out0_3 (iblk m c 0 t) (iblk m c 1 t) (iblk m c 2 t) = want m c := by
  rw [blk0, blk1, blk2]
  unfold out0_3
  rw [View.canon_unit_zero (S := S256x1024) zero2, View.ld_unit_zero (S := S256x1024) zero2, View.ld_unit_zero (S := S1x1024) zero2,
    View.ld_unit_zero (S := S1024x1024) zero2]
  funext j
  rw [eq_ix2 j]
  exact pay_eq _ _ _ _ _

/-- The one block covers the array. -/
theorem mem3 (t : Fin cfg0.N) (i : S256x1024.Idx) : i ∈ ((cfg0.win 3).blk t).view.set := by
  have h := View.emb_mem_set ((cfg0.win 3).blk t).view (i : S256x1024.Idx)
  have e : ((cfg0.win 3).blk t).view.emb (i : S256x1024.Idx) = i := Rows.whole_emb (S := S256x1024) (fun _ => 0) Rows.one_block i
  exact e ▸ h

/-- The result array ends holding the reference. -/
theorem final3 : (dats m 0 c).arrAt 3 cfg0.N = want m c :=
  (dats m 0 c).arrAt_eq_of_cover 3 (want m c)
    (fun t _ => (Value.flushed3 m c t).trans (by
      rw [out_eq]
      funext j
      exact (congrArg (want m c) (Rows.whole_emb (S := S256x1024) (fun _ => 0) Rows.one_block j)).symm))
    (fun i => ⟨⟨0, by decide⟩, by decide, mem3 ⟨0, by decide⟩ i⟩)

end Cert.Kernel3Ideal.Kv

namespace Cert.Proof

open Idealize.ShloMosaic Idealize.SL.Sem

theorem kv_frame_reference : Cert.quiescent_Reference3Ideal := fun m g _ =>
  (θ_run Cert.Reference3Ideal.defs _ _).mono (fun r h => ⟨fun c => (h c).2, sem_eq_zero_of_no_sems rfl _⟩)
    (Cert.Reference3Ideal.Value.run m g)

/-- The memory's keys and values are the reference's. -/
theorem memory_kv : Cert.algebraic_Kernel3Ideal_Reference3Ideal := fun m g m' g' _ hag => by
  refine ⟨fun c => Cert.Kernel3Ideal.Kv.want m c, ?_, ?_⟩
  · exact (θ_run Cert.Kernel3Ideal.defs _ _).mono
      (fun r h c => ⟨(h c).1.trans (Cert.Kernel3Ideal.Kv.final3 m c), (h c).2⟩) (Cert.Kernel3Ideal.Value.run_blocks m g)
  · refine (θ_run Cert.Reference3Ideal.defs _ _).mono (fun r h c => ⟨(h c).1.trans ?_, (h c).2⟩) (Cert.Reference3Ideal.Value.run m' g')
    obtain ⟨e0, e1, e2⟩ := hag c
    rw [e0, e1, e2]
    rfl

end Cert.Proof
-- ==== Proof.Combine.lean ====
/- The combination of the experts' answers: each block of the kernel is the reference's rows. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Rows
public import proofs.«01_k».proof.Proof.Norm
public import Idealize.ShloMosaic.Lib.Quiescent
public import Idealize.ShloMosaic.Lib.Pointwise
public import Idealize.ShloMosaic.Lib.ValueIdxCore

@[expose] public section

set_option maxRecDepth 16384

noncomputable section

namespace Cert.Norm

open Idealize.ShloMosaic

/-- A token's value with its four experts' answers added, each at its weight. -/
def acc (h : EReal) (t e : Fin 4 → EReal) : EReal := h + t 0 * e 0 + t 1 * e 1 + t 2 * e 2 + t 3 * e 3

/-- The order of the four additions does not matter. -/
theorem acc_eq (h : EReal) (t e : Fin 4 → EReal) : acc h t e = h + (0 + ∑ q, e q * t q) := by
  unfold acc
  rw [Fin.sum_univ_four, zero_add, mul_comm (e 0), mul_comm (e 1), mul_comm (e 2), mul_comm (e 3)]
  simp only [add_assoc]

end Cert.Norm

namespace Cert.Gather

open Idealize.ShloMosaic Idealize.ShloMosaic.TcCoe

/-- The dimension numbers of a gather of whole rows, a row number at each entry of a matrix. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Such a gather at an entry: that entry of the row whose number is given, held in range. -/
theorem row_apply {N C A B : Nat} (hN : 0 < N)
    (wf : GatherDims.WF ⟨2, ![N, C]⟩ ⟨3, ![A, B, 1]⟩ ⟨3, ![A, B, C]⟩ [2] [0] [] [0] [] 2 ![1, C])
    {α : Type} (x : (⟨2, ![N, C]⟩ : Shape).Idx → α) (idx : IVec ⟨3, ![A, B, 1]⟩ 32) (a : Fin A) (b : Fin B) (c : Fin C) :
    Host.gather (rowDims N C A B wf) x idx (ix3 a b c)
      = x (ix2 ⟨min (idx (ix3 a b (0 : Fin 1))).toInt.toNat (N - 1), by omega⟩ c) := by
  unfold Host.gather
  refine congrArg x (funext fun d => Fin.ext ?_)
  show (rowDims N C A B wf).start (ix3 a b c) idx d + (rowDims N C A B wf).batchCoord (ix3 a b c) d
      + (rowDims N C A B wf).offCoord (ix3 a b c) d = _
  rw [GatherDims.batchCoord_eq_zero _ _ _ List.not_mem_nil]
  match d with
  | ⟨0, _⟩ =>
    have hm : (0 : Fin 2) ∈ (rowDims N C A B wf).startIndexMap := List.mem_singleton.mpr rfl
    show (rowDims N C A B wf).start (ix3 a b c) idx 0 + 0 + (rowDims N C A B wf).offCoord (ix3 a b c) 0
      = min (idx (ix3 a b (0 : Fin 1))).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos hm]
    have hsi : (rowDims N C A B wf).siIdx (ix3 a b c) ⟨List.idxOf (0 : Fin 2) (rowDims N C A B wf).startIndexMap,
        List.idxOf_lt_length_iff.2 hm⟩ = ix3 a b (0 : Fin 1) := by
      funext b'; refine Fin.ext ?_
      match b' with
      | ⟨0, _⟩ => rfl
      | ⟨1, _⟩ => rfl
      | ⟨2, _⟩ => rfl
    rw [hsi]
    rfl
  | ⟨1, _⟩ =>
    have hm : (1 : Fin 2) ∉ (rowDims N C A B wf).startIndexMap := (by decide : (1 : Fin 2) ∉ ([0] : List (Fin 2)))
    show (rowDims N C A B wf).start (ix3 a b c) idx 1 + 0 + (rowDims N C A B wf).offCoord (ix3 a b c) 1 = c.val
    unfold GatherDims.start
    rw [dif_neg hm, Nat.zero_add]
    rfl

end Cert.Gather

namespace Cert.Kernel4Ideal.Comb

open Cert.Kernel4Ideal Cert.Kernel4Ideal.Gen Cert.Reference4Ideal.Read
open Idealize.ShloMosaic Idealize.ShloMosaic.TcCoe Idealize.SL.Sem

/-- What the kernel stores is the normed row of sums. -/
theorem pay_apply (h : Vec Ideal S384x1024 .f32) (t : Vec Ideal S384x128 .f32) (e0 e1 e2 e3 : Vec Ideal S1x384x1024 .f32)
    (g : Vec Ideal S1x1024 .f32) (p : Fin 384) (n : Fin 1024) :
    k0_pay1 (F := Ideal) (k0_pay2 g) (k0_pay3 t h e0 e1 e2 e3) (ix2 p n)
      = Norm.norm (fun k => Norm.acc (h (ix2 p k)) ![t (ix2 p 0), t (ix2 p 1), t (ix2 p 2), t (ix2 p 3)]
          ![e0 (ix3 0 p k), e1 (ix3 0 p k), e2 (ix3 0 p k), e3 (ix3 0 p k)]) (fun k => g (ix2 0 k)) n := by
  pointwise [k0_pay1, k0_pay2, k0_pay3, Norm.norm, Norm.acc]

section Ref

variable (h : Vec Ideal S16512x1024 .f32) (o : Vec Ideal S74240x1024 .f32) (d : Vec Ideal S16512x4 .i32)
  (t : Vec Ideal S16512x128 .f32) (g : Vec Ideal S1024 .f32)

/-- The row of the experts' answers a destination names: a negative number counts from the end. -/
def wrap (w : BitVec 32) : BitVec 32 := Scalar.select (IntOp.cmpi .slt w 0#32) (IntOp.addi w 74240#32) w

/-- That row's number, held in range. -/
def row (w : BitVec 32) : Fin 74240 := ⟨min (wrap w).toInt.toNat (74240 - 1), by omega⟩

/-- The number the reference's gather reads. -/
theorem ref_word (r : Fin 16512) (q : Fin 4) : val_main_v5 (F := Ideal) d (ix3 r q (0 : Fin 1)) = wrap (d (ix2 r q)) := by
  pointwise [val_main_v5, val_main_v4, val_main_v3, val_main_v2, val_main_v1, val_main_v0, val_main_c, val_main_c_0, wrap]

/-- Two equal numbers name one row. -/
theorem row_of {w w' : BitVec 32} (e : w = w') (k : Fin 1024) :
    o (ix2 ⟨min w.toInt.toNat (74240 - 1), by omega⟩ k) = o (ix2 ⟨min w'.toInt.toNat (74240 - 1), by omega⟩ k) := by
  subst e; rfl

/-- The reference's gathered rows. -/
theorem ref_gather (r : Fin 16512) (q : Fin 4) (k : Fin 1024) :
    val_main_v6 (F := Ideal) o d (ix3 r q k) = o (ix2 (row (d (ix2 r q))) k) :=
  (Gather.row_apply (by omega) Cert.Reference4Ideal.Facts₀.gather_S74240x1024_S16512x4x1_S16512x4x1024_2_0_n_n_0_2_11024_wf
    o (val_main_v5 (F := Ideal) d) r q k).trans (row_of o (ref_word d r q) k)

/-- The reference's weight of a token's `q`-th expert. -/
theorem ref_weight (r : Fin 16512) (q : Fin 4) (k : Fin 1024) :
    val_main_v9 (F := Ideal) t (ix3 r q k) = t (ix2 r ⟨q.val, by omega⟩) := by
  pointwise [val_main_v9, val_main_v8, val_main_v7]

/-- The reference's sums before the norm. -/
theorem ref_acc (r : Fin 16512) (k : Fin 1024) :
    val_main_v12 (F := Ideal) h o d t (ix2 r k)
      = Norm.acc (h (ix2 r k)) (fun q => t (ix2 r ⟨q.val, by omega⟩)) (fun q => o (ix2 (row (d (ix2 r q))) k)) := by
  rw [Norm.acc_eq, val_main_v12_apply, val_main_v11_apply, val_main_cst_apply]
  refine congrArg₂ (fun a b : EReal => h (ix2 r k) + (a + b)) (Ideal.ofBits_zero .f32) (Finset.sum_congr rfl fun q _ => ?_)
  have e : idx_main_v11 (ix2 r k) q = ix3 r q k := funext fun a => Fin.ext (by
    match a with
    | ⟨0, _⟩ => rfl
    | ⟨1, _⟩ => rfl
    | ⟨2, _⟩ => rfl)
  rw [e, val_main_v10_apply, ref_gather, ref_weight]
  rfl

/-- The reference's normed row. -/
theorem ref_norm (r : Fin 16512) (n : Fin 1024) :
    val_main_v25 (F := Ideal) h o d t g (ix2 r n)
      = Norm.norm (fun k => val_main_v12 (F := Ideal) h o d t (ix2 r k)) (fun k => g (ix1 k)) n := by
  pointwise [val_main_v25, val_main_v24, val_main_v23, val_main_v22, val_main_v21, val_main_v20, val_main_v19, val_main_v18,
    val_main_v17, val_main_v16, val_main_v15, val_main_v14, val_main_v13, val_main_cst_1, val_main_cst_2, val_main_cst_3, Norm.norm]

end Ref

variable (m : (ℓ : Loc nD τ sig) → Buf (Elt Ideal) ℓ) (c : Dev nD)

/-- The host's index words of the kernel's gather. -/
def words (d : Vec Ideal S16512x4 .i32) : Vec Ideal S4x16512x1 .i32 :=
  let x : Vec Ideal S4x16512 .i32 := transpose S4x16512 [1, 0] d transposes_S16512x4_S4x16512_1_0
  broadcastInDim S4x16512x1 ![0, 1] bcast_S4x16512_S4x16512x1_0_1
    (select (cmpi .slt x (broadcastInDim S4x16512 ![] bcast_S_S4x16512 (constantI S_ 32 0#32)))
      (addi x (broadcastInDim S4x16512 ![] bcast_S_S4x16512 (constantI S_ 32 74240#32))) x)

theorem V_v7 : V m c main_v7 = Host.gather gather_S74240x1024_S4x16512x1_S4x16512x1024_2_0_n_n_0_2_11024
    (m ((c : Thread nD τ).loc main_arg1)) (words (m ((c : Thread nD τ).loc main_arg2))) := by
  unfold V; after_results; rfl

theorem V_v8 : V m c main_v8 = shapeCast S1x1024 (m ((c : Thread nD τ).loc main_arg4)) shapeCasts_S1024_S1x1024 := by
  unfold V; after_results; rfl

theorem words_apply (d : Vec Ideal S16512x4 .i32) (q : Fin 4) (r : Fin 16512) :
    words d (ix3 q r (0 : Fin 1)) = wrap (d (ix2 r q)) := by
  pointwise [words, wrap]

/-- The kernel's gathered rows. -/
theorem V_v7_apply (q : Fin 4) (r : Fin 16512) (k : Fin 1024) :
    V m c main_v7 (ix3 q r k)
      = m ((c : Thread nD τ).loc main_arg1) (ix2 (row (m ((c : Thread nD τ).loc main_arg2) (ix2 r q))) k) := by
  rw [V_v7]
  exact (Gather.row_apply (by omega) Facts₀.gather_S74240x1024_S4x16512x1_S4x16512x1024_2_0_n_n_0_2_11024_wf
    (m ((c : Thread nD τ).loc main_arg1)) (words (m ((c : Thread nD τ).loc main_arg2))) q r k).trans
    (row_of (m ((c : Thread nD τ).loc main_arg1)) (words_apply (m ((c : Thread nD τ).loc main_arg2)) q r) k)

/-- The reference's result over the entry arguments. -/
abbrev want : S16512x1024.Idx → Ideal .f32 :=
  val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem coord (t : Fin cfg0.N) : ((grid0.coords t) 0).val = t.val :=
  (Pipeline.Grid.coords_val t 0 (by decide : grid0.stride 0 = 1) rfl).trans
    (by rw [Nat.div_one]; exact Nat.mod_eq_of_lt (lt_of_lt_of_eq t.isLt N_0))

theorem idx0 (i : grid0.Coords) : (BitVec.ofNat 32 (i 0).val).toNat = (i 0).val := by
  have h : (i 0).val < 43 := (i 0).isLt
  rw [BitVec.toNat_ofNat, Nat.mod_eq_of_lt (by omega)]

variable (t : Fin cfg0.N) (p : Fin 384) (r : Fin 16512) (hr : r.val = t.val * 384 + p.val)
include hr

theorem iblk0_at (k : Fin 1024) :
    iblk m c 0 t (ix2 p k : S384x1024.Idx) = m ((c : Thread nD τ).loc main_arg0) (ix2 r k) :=
  (congrArg (V m c main_arg0) (Rows.rows_emb _ (hinb0_0 (grid0.coords t)) t.val ((idx0 _).trans (coord t)) rfl p k r hr)).trans
    (congrFun (V_main_arg0 m c) _)

theorem iblk1_at (q : Fin 4) (k : Fin 1024) :
    iblk m c 1 t (ix3 q p k : S4x384x1024.Idx)
      = m ((c : Thread nD τ).loc main_arg1) (ix2 (row (m ((c : Thread nD τ).loc main_arg2) (ix2 r q))) k) :=
  (congrArg (V m c main_v7) (Rows.stack_emb _ (hinb0_1 (grid0.coords t)) t.val rfl ((idx0 _).trans (coord t)) rfl q p k r hr)).trans
    (V_v7_apply m c q r k)

theorem iblk2_at (k : Fin 128) :
    iblk m c 2 t (ix2 p k : S384x128.Idx) = m ((c : Thread nD τ).loc main_arg3) (ix2 r k) :=
  (congrArg (V m c main_arg3) (Rows.rows_emb _ (hinb0_2 (grid0.coords t)) t.val ((idx0 _).trans (coord t)) rfl p k r hr)).trans
    (congrFun (V_main_arg3 m c) _)

theorem emb4 (n : Fin 1024) : ((cfg0.win 4).blk t).view.emb (ix2 p n : S384x1024.Idx) = ix2 r n :=
  Rows.rows_emb _ (hinb0_4 (grid0.coords t)) t.val ((idx0 _).trans (coord t)) rfl p n r hr

omit hr in
theorem iblk3_eq : iblk m c 3 t = shapeCast S1x1024 (m ((c : Thread nD τ).loc main_arg4)) shapeCasts_S1024_S1x1024 :=
  funext fun j => (congrArg (V m c main_v8) (Rows.whole_emb (S := S1x1024) _ (hinb0_3 (grid0.coords t)) j)).trans (congrFun (V_v8 m c) j)

omit hr in
theorem zero2 : (![0, 0] : Fin 2 → ℕ) = fun _ => 0 := by decide

omit hr in
theorem acc_congr {h h' : EReal} {t t' e e' : Fin 4 → EReal} (hh : h = h') (ht : ∀ q, t q = t' q) (he : ∀ q, e q = e' q) :
    Norm.acc h t e = Norm.acc h' t' e' := by
  obtain rfl : t = t' := funext ht
  obtain rfl : e = e' := funext he
  rw [hh]

/-- A page of the stack of answers, read at a row. -/
theorem page_at (q : ℕ) (hq : q < 4) (inb : ∀ a, (![q, 0, 0] : Fin 3 → ℕ) a + S1x384x1024.size a ≤ S4x384x1024.size a) (k : Fin 1024) :
    View.ld (iblk m c 1 t : S4x384x1024.Idx → Ideal .f32) (Rect.unit (s := S4x384x1024) ![q, 0, 0] S1x384x1024.size inb) (ix3 (0 : Fin 1) p k)
      = m ((c : Thread nD τ).loc main_arg1) (ix2 (row (m ((c : Thread nD τ).loc main_arg2) (ix2 r ⟨q, hq⟩))) k) := by
  refine Eq.trans (congrArg (iblk m c 1 t : S4x384x1024.Idx → Ideal .f32) ?_) (iblk1_at m c t p r hr ⟨q, hq⟩ k)
  refine funext fun a => Fin.ext ?_
  match a with
  | ⟨0, _⟩ => show q + 1 * 0 = q; omega
  | ⟨1, _⟩ => show 0 + 1 * p.val = p.val; omega
  | ⟨2, _⟩ => show 0 + 1 * k.val = k.val; omega

/-- What the kernel leaves in a block of rows is the reference's rows. -/
theorem out_at (n : Fin 1024) :
    out0_4 (iblk m c 0 t) (iblk m c 1 t) (iblk m c 2 t) (iblk m c 3 t) (ix2 p n) = want m c (ix2 r n) := by
  unfold out0_4
  rw [View.canon_unit_zero (S := S384x1024) zero2, View.ld_unit_zero (S := S384x1024) zero2, View.ld_unit_zero (S := S1x1024) zero2,
    View.ld_unit_zero (S := S384x128) zero2]
  refine (pay_apply _ _ _ _ _ _ _ p n).trans ?_
  refine Eq.trans ?_ (ref_norm _ _ _ _ _ r n).symm
  refine Norm.norm_congr (fun k => ?_) (fun k => ?_) n
  · refine Eq.trans ?_ (ref_acc _ _ _ _ r k).symm
    refine acc_congr (iblk0_at m c t p r hr k) (fun q => ?_) (fun q => ?_)
    · match q with
      | ⟨0, _⟩ => exact iblk2_at m c t p r hr 0
      | ⟨1, _⟩ => exact iblk2_at m c t p r hr 1
      | ⟨2, _⟩ => exact iblk2_at m c t p r hr 2
      | ⟨3, _⟩ => exact iblk2_at m c t p r hr 3
    · match q with
      | ⟨0, _⟩ => exact page_at m c t p r hr 0 (by omega) _ k
      | ⟨1, _⟩ => exact page_at m c t p r hr 1 (by omega) _ k
      | ⟨2, _⟩ => exact page_at m c t p r hr 2 (by omega) _ k
      | ⟨3, _⟩ => exact page_at m c t p r hr 3 (by omega) _ k
  · rw [iblk3_eq]
    pointwise []

theorem mem4 (n : Fin 1024) : (ix2 r n : S16512x1024.Idx) ∈ ((cfg0.win 4).blk t).view.set := by
  have h := View.emb_mem_set ((cfg0.win 4).blk t).view (ix2 p n : S384x1024.Idx)
  exact emb4 t p r hr n ▸ h

omit t p r hr in
theorem row_of_point (t : Fin cfg0.N) (p : Fin 384) : ∃ r : Fin 16512, r.val = t.val * 384 + p.val := by
  have h : t.val < 43 := t.isLt
  exact ⟨⟨t.val * 384 + p.val, by omega⟩, rfl⟩

omit t p r hr in
theorem point_of_row (r : Fin 16512) : ∃ (t : Fin cfg0.N) (p : Fin 384), r.val = t.val * 384 + p.val :=
  ⟨(⟨r.val / 384, by omega⟩ : Fin 43), ⟨r.val % 384, by omega⟩, by show r.val = r.val / 384 * 384 + r.val % 384; omega⟩

omit t p r hr in
/-- The result array ends holding the reference. -/
theorem final4 : (dats m 0 c).arrAt 4 cfg0.N = want m c :=
  (dats m 0 c).arrAt_eq_of_cover 4 (want m c)
    (fun t _ => (Value.flushed4 m c t).trans (by
      have key : ∀ j : S384x1024.Idx, out0_4 (iblk m c 0 t) (iblk m c 1 t) (iblk m c 2 t) (iblk m c 3 t) j
          = want m c (((cfg0.win 4).blk t).view.emb j) := fun j => by
        obtain ⟨r, hr⟩ := row_of_point t (j 0)
        rw [eq_ix2 j]
        exact (out_at m c t (j 0) r hr (j 1)).trans (congrArg (want m c) (emb4 t (j 0) r hr (j 1))).symm
      exact funext fun j => key j))
    (fun i => by
      have key : ∀ i : S16512x1024.Idx, ∃ t : Fin cfg0.N, (cfg0.win 4).flush t = true ∧ i ∈ ((cfg0.win 4).blk t).view.set := fun i => by
        obtain ⟨t, p, hr⟩ := point_of_row (i 0)
        rw [eq_ix2 i]
        exact ⟨t, flush0_4 t, mem4 t p (i 0) hr (i 1)⟩
      exact key i)

end Cert.Kernel4Ideal.Comb

namespace Cert.Proof

open Idealize.ShloMosaic Idealize.SL.Sem

theorem comb_frame_reference : Cert.quiescent_Reference4Ideal := fun m g _ =>
  (θ_run Cert.Reference4Ideal.defs _ _).mono (fun r h => ⟨fun c => (h c).2, sem_eq_zero_of_no_sems rfl _⟩)
    (Cert.Reference4Ideal.Value.run m g)

/-- The combination is the reference's. -/
theorem combine : Cert.algebraic_Kernel4Ideal_Reference4Ideal := fun m g m' g' _ hag => by
  refine ⟨fun c => Cert.Kernel4Ideal.Comb.want m c, ?_, ?_⟩
  · exact (θ_run Cert.Kernel4Ideal.defs _ _).mono
      (fun r h c => ⟨(h c).1.trans (Cert.Kernel4Ideal.Comb.final4 m c), (h c).2⟩) (Cert.Kernel4Ideal.Value.run_blocks m g)
  · refine (θ_run Cert.Reference4Ideal.defs _ _).mono (fun r h c => ⟨(h c).1.trans ?_, (h c).2⟩) (Cert.Reference4Ideal.Value.run m' g')
    obtain ⟨e0, e1, e2, e3, e4⟩ := hag c
    rw [e0, e1, e2, e3, e4]
    rfl

end Cert.Proof
-- ==== Proof.MergePay.lean ====
/- The merge of the branches: the kernel's arithmetic and the reference's, each read at an entry. -/
module

public import proofs.«01_k».proof.Proof.Gen.Kernel5Ideal.Skeleton
public import proofs.«01_k».proof.Proof.Gen.Reference5Ideal.Read
public import proofs.«01_k».proof.Proof.Norm
public import Idealize.ShloMosaic.Lib.Pointwise
public import Idealize.ShloMosaic.Lib.ValueIdxCore

@[expose] public section

set_option maxRecDepth 16384

noncomputable section

namespace Cert.MergeSpec

/-- A branch's row times its matrix's column, weighted by the branch's gate. -/
def branch (g : EReal) (o : Fin 512 → EReal) (w : Fin 512 → EReal) : EReal := g * ∑ k, o k * w k

/-- Entry `n` of a token's row after the merge: the token plus the output projection of the sum of the gated branches. -/
def hidden (x : EReal) (g : Fin 3 → Fin 1024 → EReal) (a c b : Fin 512 → EReal) (wa wc wb : Fin 512 → Fin 1024 → EReal)
    (wo : Fin 1024 → EReal) : EReal :=
  x + ∑ j, (branch (g 0 j) a (fun k => wa k j) + branch (g 1 j) c (fun k => wc k j) + branch (g 2 j) b (fun k => wb k j)) * wo j

/-- Equal arguments give equal entries. -/
theorem hidden_congr {x x' : EReal} {g g' : Fin 3 → Fin 1024 → EReal} {a a' c c' b b' : Fin 512 → EReal}
    {wa wa' wc wc' wb wb' : Fin 512 → Fin 1024 → EReal} {wo wo' : Fin 1024 → EReal} (hx : x = x') (hg : ∀ q j, g q j = g' q j)
    (ha : ∀ k, a k = a' k) (hc : ∀ k, c k = c' k) (hb : ∀ k, b k = b' k) (hwa : ∀ k j, wa k j = wa' k j)
    (hwc : ∀ k j, wc k j = wc' k j) (hwb : ∀ k j, wb k j = wb' k j) (hwo : ∀ j, wo j = wo' j) :
    hidden x g a c b wa wc wb wo = hidden x' g' a' c' b' wa' wc' wb' wo' := by
  obtain rfl : g = g' := funext fun q => funext (hg q)
  obtain rfl : a = a' := funext ha
  obtain rfl : c = c' := funext hc
  obtain rfl : b = b' := funext hb
  obtain rfl : wa = wa' := funext fun q => funext (hwa q)
  obtain rfl : wc = wc' := funext fun q => funext (hwc q)
  obtain rfl : wb = wb' := funext fun q => funext (hwb q)
  obtain rfl : wo = wo' := funext hwo
  rw [hx]

end Cert.MergeSpec

namespace Cert.Kernel5Ideal.Merge

open Cert.Kernel5Ideal Cert.Kernel5Ideal.Gen
open Idealize.ShloMosaic Idealize.ShloMosaic.TcCoe

/-- What the kernel stores as the merged rows. -/
theorem pay1_apply (g0 : Vec Ideal S512x1024 .f32) (a : Vec Ideal S512x512 .bf16) (wa : Vec Ideal S512x1024 .bf16)
    (g1 : Vec Ideal S512x1024 .f32) (c : Vec Ideal S512x512 .bf16) (wc : Vec Ideal S512x1024 .bf16)
    (g2 : Vec Ideal S512x1024 .f32) (b : Vec Ideal S512x512 .bf16) (wb : Vec Ideal S512x1024 .bf16)
    (x : Vec Ideal S512x1024 .f32) (wo : Vec Ideal S1024x1024 .bf16) (p : Fin 512) (n : Fin 1024) :
    k0_pay1 (F := Ideal) g0 a wa g1 c wc g2 b wb x wo (ix2 p n)
      = MergeSpec.hidden (x (ix2 p n)) ![fun j => g0 (ix2 p j), fun j => g1 (ix2 p j), fun j => g2 (ix2 p j)]
          (fun k => a (ix2 p k)) (fun k => c (ix2 p k)) (fun k => b (ix2 p k)) (fun k j => wa (ix2 k j)) (fun k j => wc (ix2 k j))
          (fun k j => wb (ix2 k j)) (fun j => wo (ix2 j n)) := by
  pointwise [k0_pay1, MergeSpec.hidden, MergeSpec.branch]

/-- What the kernel stores as the normed rows. -/
theorem pay2_apply (y : FVec Ideal S512x1024 .f32) (g : Vec Ideal S1x1024 .f32) (p : Fin 512) (n : Fin 1024) :
    k0_pay2 (F := Ideal) y g (ix2 p n) = Norm.norm (fun k => y (ix2 p k)) (fun k => g (ix2 0 k)) n := by
  pointwise [k0_pay2, Norm.norm]

end Cert.Kernel5Ideal.Merge

namespace Cert.Reference5Ideal.Merge

open Cert.Reference5Ideal Cert.Reference5Ideal.Read
open Idealize.ShloMosaic Idealize.ShloMosaic.TcCoe

variable (x : Vec Ideal S16384x1024 .f32) (a c b : Vec Ideal S16384x512 .f32) (gt : Vec Ideal S16384x3072 .f32)
  (wa wc wb : Vec Ideal S512x1024 .f32) (wo : Vec Ideal S1024x1024 .f32) (g : Vec Ideal S1024 .f32)

theorem gate0 (r : Fin 16384) (n : Fin 1024) : val_main_v2 (F := Ideal) gt (ix2 r n) = gt (ix2 r ⟨n.val, by omega⟩) := by
  rw [val_main_v2_apply, val_main_v1_apply, val_main_v0_apply]
  refine congrArg gt (funext fun a => Fin.ext ?_)
  match a with
  | ⟨0, _⟩ => simp; omega
  | ⟨1, _⟩ => simp; omega

theorem gate1 (r : Fin 16384) (n : Fin 1024) : val_main_v6 (F := Ideal) gt (ix2 r n) = gt (ix2 r ⟨1024 + n.val, by omega⟩) := by
  rw [val_main_v6_apply, val_main_v5_apply, val_main_v0_apply]
  refine congrArg gt (funext fun a => Fin.ext ?_)
  match a with
  | ⟨0, _⟩ => simp; omega
  | ⟨1, _⟩ => simp; omega

theorem gate2 (r : Fin 16384) (n : Fin 1024) : val_main_v11 (F := Ideal) gt (ix2 r n) = gt (ix2 r ⟨2048 + n.val, by omega⟩) := by
  rw [val_main_v11_apply, val_main_v10_apply, val_main_v0_apply]
  refine congrArg gt (funext fun a => Fin.ext ?_)
  match a with
  | ⟨0, _⟩ => simp; omega
  | ⟨1, _⟩ => simp; omega

/-- The reference's merged rows. -/
theorem hidden_apply (r : Fin 16384) (n : Fin 1024) :
    val_main_v16 (F := Ideal) x a c b gt wa wc wb wo (ix2 r n)
      = MergeSpec.hidden (x (ix2 r n)) ![fun j => gt (ix2 r ⟨j.val, by omega⟩), fun j => gt (ix2 r ⟨1024 + j.val, by omega⟩),
            fun j => gt (ix2 r ⟨2048 + j.val, by omega⟩)]
          (fun k => a (ix2 r k)) (fun k => c (ix2 r k)) (fun k => b (ix2 r k)) (fun k j => wa (ix2 k j)) (fun k j => wc (ix2 k j))
          (fun k j => wb (ix2 k j)) (fun j => wo (ix2 j n)) := by
  simp only [← gate0, ← gate1, ← gate2]
  pointwise [val_main_v16, val_main_v15, val_main_v14, val_main_v13, val_main_v12, val_main_v9, val_main_v8, val_main_v7, val_main_v4,
    val_main_v3, MergeSpec.hidden, MergeSpec.branch]

/-- The reference's normed rows. -/
theorem normed_apply (r : Fin 16384) (n : Fin 1024) :
    val_main_v29 (F := Ideal) x a c b gt wa wc wb wo g (ix2 r n)
      = Norm.norm (fun k => val_main_v16 (F := Ideal) x a c b gt wa wc wb wo (ix2 r k)) (fun k => g (ix1 k)) n := by
  pointwise [val_main_v29, val_main_v28, val_main_v27, val_main_v26, val_main_v25, val_main_v24, val_main_v23, val_main_v22, val_main_v21,
    val_main_v20, val_main_v19, val_main_v18, val_main_v17, val_main_cst, val_main_cst_0, val_main_cst_1, Norm.norm]

end Cert.Reference5Ideal.Merge
-- ==== Proof.MergeOut.lean ====
/- What the merge kernel's body leaves in its first two output blocks, read at an entry. -/
module

public import proofs.«01_k».proof.Proof.Gen.Kernel5Ideal.Value
public import proofs.«01_k».proof.Proof.MergePay
public import proofs.«01_k».proof.Proof.Loads

@[expose] public section

set_option maxRecDepth 16384

noncomputable section

namespace Cert.Kernel5Ideal.Merge

open Cert.Kernel5Ideal Cert.Kernel5Ideal.Gen Cert.Loads
open Idealize.ShloMosaic Idealize.ShloMosaic.TcCoe

theorem zeros (a : Fin 2) : (![0, 0] : Fin 2 → ℕ) a = 0 := match a with
  | ⟨0, _⟩ => rfl
  | ⟨1, _⟩ => rfl

/-- The merged rows of a block. -/
def G13 (x0 : Vec Ideal S512x1024 .f32) (x1 x2 x3 : Vec Ideal S512x512 .bf16) (x4 : Vec Ideal S512x3072 .f32)
    (x5 x6 x7 : Vec Ideal S512x1024 .bf16) (x8 : Vec Ideal S1024x1024 .bf16) (j : S512x1024.Idx) : EReal :=
  MergeSpec.hidden (x0 (ix2 (j 0) (j 1)))
    ![fun k => x4 (ix2 (j 0) ⟨k.val, by omega⟩), fun k => x4 (ix2 (j 0) ⟨1024 + k.val, by omega⟩), fun k => x4 (ix2 (j 0) ⟨2048 + k.val, by omega⟩)]
    (fun k => x1 (ix2 (j 0) k)) (fun k => x2 (ix2 (j 0) k)) (fun k => x3 (ix2 (j 0) k)) (fun k n => x5 (ix2 k n)) (fun k n => x6 (ix2 k n))
    (fun k n => x7 (ix2 k n)) (fun n => x8 (ix2 n (j 1)))

/-- The normed rows of a block. -/
def G14 (x0 : Vec Ideal S512x1024 .f32) (x1 x2 x3 : Vec Ideal S512x512 .bf16) (x4 : Vec Ideal S512x3072 .f32)
    (x5 x6 x7 : Vec Ideal S512x1024 .bf16) (x8 : Vec Ideal S1024x1024 .bf16) (x9 : Vec Ideal S1x1024 .f32) (j : S512x1024.Idx) : EReal :=
  Norm.norm (fun k => G13 x0 x1 x2 x3 x4 x5 x6 x7 x8 (ix2 (j 0) k)) (fun k => x9 (ix2 0 k)) (j 1)

variable {arg1 : Memref sig .tc .vmem S512x1024 .f32} {harg1 : arg1.IsWhole} {arg2 : Memref sig .tc .vmem S512x512 .bf16} {harg2 : arg2.IsWhole} {arg3 : Memref sig .tc .vmem S512x512 .bf16} {harg3 : arg3.IsWhole}
  {arg4 : Memref sig .tc .vmem S512x512 .bf16} {harg4 : arg4.IsWhole} {arg5 : Memref sig .tc .vmem S512x3072 .f32} {harg5 : arg5.IsWhole} {arg6 : Memref sig .tc .vmem S512x1024 .bf16} {harg6 : arg6.IsWhole}
  {arg7 : Memref sig .tc .vmem S512x1024 .bf16} {harg7 : arg7.IsWhole} {arg8 : Memref sig .tc .vmem S512x1024 .bf16} {harg8 : arg8.IsWhole} {arg9 : Memref sig .tc .vmem S1024x1024 .bf16} {harg9 : arg9.IsWhole}
  {arg10 : Memref sig .tc .vmem S1x1024 .f32} {harg10 : arg10.IsWhole} {arg11 : Memref sig .tc .vmem S1024x32 .f32} {harg11 : arg11.IsWhole} {arg12 : Memref sig .tc .vmem S1x32 .f32} {harg12 : arg12.IsWhole}
  {arg13 : Memref sig .tc .vmem S1x32 .f32} {harg13 : arg13.IsWhole} {arg14 : Memref sig .tc .vmem S512x1024 .f32} {harg14 : arg14.IsWhole} {arg15 : Memref sig .tc .vmem S512x1024 .f32} {harg15 : arg15.IsWhole}
  {arg16 : Memref sig .tc .vmem S512x128 .i32} {harg16 : arg16.IsWhole} {arg17 : Memref sig .tc .vmem S512x128 .f32} {harg17 : arg17.IsWhole} {arg18 : Memref sig .tc .vmem S512x128 .i32} {harg18 : arg18.IsWhole}
  {arg19 : Memref sig .tc .vmem S1x32 .f32} {harg19 : arg19.IsWhole} {arg20 : Memref sig .tc .vmem S1x32 .f32} {harg20 : arg20.IsWhole}
  {x0 : Vec Ideal S512x1024 .f32} {x1 : Vec Ideal S512x512 .bf16} {x2 : Vec Ideal S512x512 .bf16} {x3 : Vec Ideal S512x512 .bf16} {x4 : Vec Ideal S512x3072 .f32} {x5 : Vec Ideal S512x1024 .bf16} {x6 : Vec Ideal S512x1024 .bf16} {x7 : Vec Ideal S512x1024 .bf16} {x8 : Vec Ideal S1024x1024 .bf16} {x9 : Vec Ideal S1x1024 .f32} {x10 : Vec Ideal S1024x32 .f32} {x11 : Vec Ideal S1x32 .f32} {x12 : Vec Ideal S1x32 .f32}

theorem hidden_at (p : Fin 512) (n : Fin 1024) :
    k0_pay1 (F := Ideal) (View.readAt (Elt Ideal) arg5.view (Rect.unit (s := S512x3072) ![0, 0] S512x1024.size inb_S512x3072_S512x1024_0_0).toLoadRect (harg5.unread x4)) (View.readAt (Elt Ideal) arg2.view (Rect.unit (s := S512x512) ![0, 0] S512x512.size inb_S512x512_S512x512_0_0).toLoadRect (harg2.unread x1)) (View.readAt (Elt Ideal) arg6.view (Rect.unit (s := S512x1024) ![0, 0] S512x1024.size inb_S512x1024_S512x1024_0_0).toLoadRect (harg6.unread x5)) (View.readAt (Elt Ideal) arg5.view (Rect.unit (s := S512x3072) ![0, 1024] S512x1024.size inb_S512x3072_S512x1024_0_1024).toLoadRect (harg5.unread x4)) (View.readAt (Elt Ideal) arg3.view (Rect.unit (s := S512x512) ![0, 0] S512x512.size inb_S512x512_S512x512_0_0).toLoadRect (harg3.unread x2)) (View.readAt (Elt Ideal) arg7.view (Rect.unit (s := S512x1024) ![0, 0] S512x1024.size inb_S512x1024_S512x1024_0_0).toLoadRect (harg7.unread x6)) (View.readAt (Elt Ideal) arg5.view (Rect.unit (s := S512x3072) ![0, 2048] S512x1024.size inb_S512x3072_S512x1024_0_2048).toLoadRect (harg5.unread x4)) (View.readAt (Elt Ideal) arg4.view (Rect.unit (s := S512x512) ![0, 0] S512x512.size inb_S512x512_S512x512_0_0).toLoadRect (harg4.unread x3)) (View.readAt (Elt Ideal) arg8.view (Rect.unit (s := S512x1024) ![0, 0] S512x1024.size inb_S512x1024_S512x1024_0_0).toLoadRect (harg8.unread x7)) (View.readAt (Elt Ideal) arg1.view (Rect.unit (s := S512x1024) ![0, 0] S512x1024.size inb_S512x1024_S512x1024_0_0).toLoadRect (harg1.unread x0)) (View.readAt (Elt Ideal) arg9.view (Rect.unit (s := S1024x1024) ![0, 0] S1024x1024.size inb_S1024x1024_S1024x1024_0_0).toLoadRect (harg9.unread x8)) (ix2 p n) = G13 x0 x1 x2 x3 x4 x5 x6 x7 x8 (ix2 p n) :=
  (pay1_apply _ _ _ _ _ _ _ _ _ _ _ p n).trans (MergeSpec.hidden_congr (whole_load harg1 x0 ![0, 0] zeros _ _)
    (fun q j => match q with
      | ⟨0, _⟩ => cols_load harg5 x4 0 _ p j _ (Nat.zero_add _).symm
      | ⟨1, _⟩ => cols_load harg5 x4 1024 _ p j _ rfl
      | ⟨2, _⟩ => cols_load harg5 x4 2048 _ p j _ rfl)
    (fun k => whole_load harg2 x1 ![0, 0] zeros _ _) (fun k => whole_load harg3 x2 ![0, 0] zeros _ _) (fun k => whole_load harg4 x3 ![0, 0] zeros _ _)
    (fun k j => whole_load harg6 x5 ![0, 0] zeros _ _) (fun k j => whole_load harg7 x6 ![0, 0] zeros _ _) (fun k j => whole_load harg8 x7 ![0, 0] zeros _ _)
    (fun j => whole_load harg9 x8 ![0, 0] zeros _ _))

theorem normed_at (p : Fin 512) (n : Fin 1024) :
    k0_pay2 (F := Ideal) (k0_pay1 (F := Ideal) (View.readAt (Elt Ideal) arg5.view (Rect.unit (s := S512x3072) ![0, 0] S512x1024.size inb_S512x3072_S512x1024_0_0).toLoadRect (harg5.unread x4)) (View.readAt (Elt Ideal) arg2.view (Rect.unit (s := S512x512) ![0, 0] S512x512.size inb_S512x512_S512x512_0_0).toLoadRect (harg2.unread x1)) (View.readAt (Elt Ideal) arg6.view (Rect.unit (s := S512x1024) ![0, 0] S512x1024.size inb_S512x1024_S512x1024_0_0).toLoadRect (harg6.unread x5)) (View.readAt (Elt Ideal) arg5.view (Rect.unit (s := S512x3072) ![0, 1024] S512x1024.size inb_S512x3072_S512x1024_0_1024).toLoadRect (harg5.unread x4)) (View.readAt (Elt Ideal) arg3.view (Rect.unit (s := S512x512) ![0, 0] S512x512.size inb_S512x512_S512x512_0_0).toLoadRect (harg3.unread x2)) (View.readAt (Elt Ideal) arg7.view (Rect.unit (s := S512x1024) ![0, 0] S512x1024.size inb_S512x1024_S512x1024_0_0).toLoadRect (harg7.unread x6)) (View.readAt (Elt Ideal) arg5.view (Rect.unit (s := S512x3072) ![0, 2048] S512x1024.size inb_S512x3072_S512x1024_0_2048).toLoadRect (harg5.unread x4)) (View.readAt (Elt Ideal) arg4.view (Rect.unit (s := S512x512) ![0, 0] S512x512.size inb_S512x512_S512x512_0_0).toLoadRect (harg4.unread x3)) (View.readAt (Elt Ideal) arg8.view (Rect.unit (s := S512x1024) ![0, 0] S512x1024.size inb_S512x1024_S512x1024_0_0).toLoadRect (harg8.unread x7)) (View.readAt (Elt Ideal) arg1.view (Rect.unit (s := S512x1024) ![0, 0] S512x1024.size inb_S512x1024_S512x1024_0_0).toLoadRect (harg1.unread x0)) (View.readAt (Elt Ideal) arg9.view (Rect.unit (s := S1024x1024) ![0, 0] S1024x1024.size inb_S1024x1024_S1024x1024_0_0).toLoadRect (harg9.unread x8))) (View.readAt (Elt Ideal) arg10.view (Rect.unit (s := S1x1024) ![0, 0] S1x1024.size inb_S1x1024_S1x1024_0_0).toLoadRect (harg10.unread x9)) (ix2 p n) = G14 x0 x1 x2 x3 x4 x5 x6 x7 x8 x9 (ix2 p n) :=
  (pay2_apply _ _ p n).trans (Norm.norm_congr (fun k => hidden_at p k) (fun k => whole_load harg10 x9 ![0, 0] zeros _ _) n)

theorem emb_whole (x : S512x1024.Idx) (h) : (Rect.unit (s := S512x1024) ![0, 0] S512x1024.size h).emb x = x :=
  funext fun a => Fin.ext (by
    match a with
    | ⟨0, _⟩ => show 0 + 1 * (x 0).val = (x 0).val; omega
    | ⟨1, _⟩ => show 0 + 1 * (x 1).val = (x 1).val; omega)

theorem hidden_piece (h) (x : S512x1024.Idx) :
    k0_pay1 (F := Ideal) (View.readAt (Elt Ideal) arg5.view (Rect.unit (s := S512x3072) ![0, 0] S512x1024.size inb_S512x3072_S512x1024_0_0).toLoadRect (harg5.unread x4)) (View.readAt (Elt Ideal) arg2.view (Rect.unit (s := S512x512) ![0, 0] S512x512.size inb_S512x512_S512x512_0_0).toLoadRect (harg2.unread x1)) (View.readAt (Elt Ideal) arg6.view (Rect.unit (s := S512x1024) ![0, 0] S512x1024.size inb_S512x1024_S512x1024_0_0).toLoadRect (harg6.unread x5)) (View.readAt (Elt Ideal) arg5.view (Rect.unit (s := S512x3072) ![0, 1024] S512x1024.size inb_S512x3072_S512x1024_0_1024).toLoadRect (harg5.unread x4)) (View.readAt (Elt Ideal) arg3.view (Rect.unit (s := S512x512) ![0, 0] S512x512.size inb_S512x512_S512x512_0_0).toLoadRect (harg3.unread x2)) (View.readAt (Elt Ideal) arg7.view (Rect.unit (s := S512x1024) ![0, 0] S512x1024.size inb_S512x1024_S512x1024_0_0).toLoadRect (harg7.unread x6)) (View.readAt (Elt Ideal) arg5.view (Rect.unit (s := S512x3072) ![0, 2048] S512x1024.size inb_S512x3072_S512x1024_0_2048).toLoadRect (harg5.unread x4)) (View.readAt (Elt Ideal) arg4.view (Rect.unit (s := S512x512) ![0, 0] S512x512.size inb_S512x512_S512x512_0_0).toLoadRect (harg4.unread x3)) (View.readAt (Elt Ideal) arg8.view (Rect.unit (s := S512x1024) ![0, 0] S512x1024.size inb_S512x1024_S512x1024_0_0).toLoadRect (harg8.unread x7)) (View.readAt (Elt Ideal) arg1.view (Rect.unit (s := S512x1024) ![0, 0] S512x1024.size inb_S512x1024_S512x1024_0_0).toLoadRect (harg1.unread x0)) (View.readAt (Elt Ideal) arg9.view (Rect.unit (s := S1024x1024) ![0, 0] S1024x1024.size inb_S1024x1024_S1024x1024_0_0).toLoadRect (harg9.unread x8)) x = G13 x0 x1 x2 x3 x4 x5 x6 x7 x8 ((Rect.unit (s := S512x1024) ![0, 0] S512x1024.size h).emb x) := by
  rw [emb_whole, eq_ix2 x]
  exact hidden_at _ _

theorem normed_piece (h) (x : S512x1024.Idx) :
    k0_pay2 (F := Ideal) (k0_pay1 (F := Ideal) (View.readAt (Elt Ideal) arg5.view (Rect.unit (s := S512x3072) ![0, 0] S512x1024.size inb_S512x3072_S512x1024_0_0).toLoadRect (harg5.unread x4)) (View.readAt (Elt Ideal) arg2.view (Rect.unit (s := S512x512) ![0, 0] S512x512.size inb_S512x512_S512x512_0_0).toLoadRect (harg2.unread x1)) (View.readAt (Elt Ideal) arg6.view (Rect.unit (s := S512x1024) ![0, 0] S512x1024.size inb_S512x1024_S512x1024_0_0).toLoadRect (harg6.unread x5)) (View.readAt (Elt Ideal) arg5.view (Rect.unit (s := S512x3072) ![0, 1024] S512x1024.size inb_S512x3072_S512x1024_0_1024).toLoadRect (harg5.unread x4)) (View.readAt (Elt Ideal) arg3.view (Rect.unit (s := S512x512) ![0, 0] S512x512.size inb_S512x512_S512x512_0_0).toLoadRect (harg3.unread x2)) (View.readAt (Elt Ideal) arg7.view (Rect.unit (s := S512x1024) ![0, 0] S512x1024.size inb_S512x1024_S512x1024_0_0).toLoadRect (harg7.unread x6)) (View.readAt (Elt Ideal) arg5.view (Rect.unit (s := S512x3072) ![0, 2048] S512x1024.size inb_S512x3072_S512x1024_0_2048).toLoadRect (harg5.unread x4)) (View.readAt (Elt Ideal) arg4.view (Rect.unit (s := S512x512) ![0, 0] S512x512.size inb_S512x512_S512x512_0_0).toLoadRect (harg4.unread x3)) (View.readAt (Elt Ideal) arg8.view (Rect.unit (s := S512x1024) ![0, 0] S512x1024.size inb_S512x1024_S512x1024_0_0).toLoadRect (harg8.unread x7)) (View.readAt (Elt Ideal) arg1.view (Rect.unit (s := S512x1024) ![0, 0] S512x1024.size inb_S512x1024_S512x1024_0_0).toLoadRect (harg1.unread x0)) (View.readAt (Elt Ideal) arg9.view (Rect.unit (s := S1024x1024) ![0, 0] S1024x1024.size inb_S1024x1024_S1024x1024_0_0).toLoadRect (harg9.unread x8))) (View.readAt (Elt Ideal) arg10.view (Rect.unit (s := S1x1024) ![0, 0] S1x1024.size inb_S1x1024_S1x1024_0_0).toLoadRect (harg10.unread x9)) x = G14 x0 x1 x2 x3 x4 x5 x6 x7 x8 x9 ((Rect.unit (s := S512x1024) ![0, 0] S512x1024.size h).emb x) := by
  rw [emb_whole, eq_ix2 x]
  exact normed_at _ _

variable {c : Dev nD} {i : grid0.Coords}

theorem out13_A {hc0 : cond0_0 i} (y : S512x1024.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 y = G13 x0 x1 x2 x3 x4 x5 x6 x7 x8 y := by
  unfold out0_A_13
  rw [View.read_writes_junk_eq_canon]
  refine View.canon_apply_of_pieces (G13 x0 x1 x2 x3 x4 x5 x6 x7 x8) _ ?_ y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 y)
  unfold kernelRun0_A
  dsimp only
  refine List.forall_mem_cons.2 ⟨?_, fun _ h => absurd h List.not_mem_nil⟩
  intro x
  exact hidden_piece inb_S512x1024_S512x1024_0_0 x

theorem out14_A {hc0 : cond0_0 i} (y : S512x1024.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 y = G14 x0 x1 x2 x3 x4 x5 x6 x7 x8 x9 y := by
  unfold out0_A_14
  rw [View.read_writes_junk_eq_canon]
  refine View.canon_apply_of_pieces (G14 x0 x1 x2 x3 x4 x5 x6 x7 x8 x9) _ ?_ y
    (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 y)
  unfold kernelRun0_A
  dsimp only
  unfold kernelRun0_A.sl.r
  refine List.forall_mem_cons.2 ⟨?_, fun _ h => absurd h List.not_mem_nil⟩
  intro x
  exact normed_piece inb_S512x1024_S512x1024_0_0 x

theorem out13_B {hc0 : ¬cond0_0 i} {xs0 : Vec Ideal S1x32 .f32} (y : S512x1024.Idx) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 y = G13 x0 x1 x2 x3 x4 x5 x6 x7 x8 y := by
  unfold out0_B_13
  rw [View.read_writes_junk_eq_canon]
  refine View.canon_apply_of_pieces (G13 x0 x1 x2 x3 x4 x5 x6 x7 x8) _ ?_ y
    (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 y)
  unfold kernelRun0_B
  dsimp only
  refine List.forall_mem_cons.2 ⟨?_, fun _ h => absurd h List.not_mem_nil⟩
  intro x
  exact hidden_piece inb_S512x1024_S512x1024_0_0 x

theorem out14_B {hc0 : ¬cond0_0 i} {xs0 : Vec Ideal S1x32 .f32} (y : S512x1024.Idx) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 y = G14 x0 x1 x2 x3 x4 x5 x6 x7 x8 x9 y := by
  unfold out0_B_14
  rw [View.read_writes_junk_eq_canon]
  refine View.canon_apply_of_pieces (G14 x0 x1 x2 x3 x4 x5 x6 x7 x8 x9) _ ?_ y
    (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 y)
  unfold kernelRun0_B
  dsimp only
  unfold kernelRun0_B.sl.r
  refine List.forall_mem_cons.2 ⟨?_, fun _ h => absurd h List.not_mem_nil⟩
  intro x
  exact normed_piece inb_S512x1024_S512x1024_0_0 x

end Cert.Kernel5Ideal.Merge
-- ==== Proof.Merge.lean ====
/- The merge of the branches: each block of the kernel is the reference's rows. -/
module

public import proofs.«01_k».proof.Defs
public import proofs.«01_k».proof.Proof.Gen.Kernel5Ideal.Value
public import proofs.«01_k».proof.Proof.Gen.Reference5Ideal.Run
public import proofs.«01_k».proof.Proof.MergeOut
public import proofs.«01_k».proof.Proof.Rows
public import Idealize.ShloMosaic.Lib.Quiescent
public import Idealize.ShloMosaic.Lib.Pointwise
public import Idealize.ShloMosaic.Lib.ValueIdxCore

@[expose] public section

set_option maxRecDepth 16384

noncomputable section

namespace Cert.Kernel5Ideal.Merge

open Cert.Kernel5Ideal Cert.Kernel5Ideal.Gen Cert.Reference5Ideal.Read
open Idealize.ShloMosaic Idealize.ShloMosaic.TcCoe Idealize.SL.Sem

/-! ## The kernel's arrays before its first block -/

variable (m : (ℓ : Loc nD τ sig) → Buf (Elt Ideal) ℓ) (c : Dev nD)

/-- The tokens, the branches, the gates and the weights. -/
abbrev X : Vec Ideal S16384x1024 .f32 := m ((c : Thread nD τ).loc main_arg0)
abbrev Oa : Vec Ideal S16384x512 .f32 := m ((c : Thread nD τ).loc main_arg1)
abbrev Oc : Vec Ideal S16384x512 .f32 := m ((c : Thread nD τ).loc main_arg2)
abbrev Om : Vec Ideal S16384x512 .f32 := m ((c : Thread nD τ).loc main_arg3)
abbrev Gt : Vec Ideal S16384x3072 .f32 := m ((c : Thread nD τ).loc main_arg4)
abbrev Wa : Vec Ideal S512x1024 .f32 := m ((c : Thread nD τ).loc main_arg5)
abbrev Wc : Vec Ideal S512x1024 .f32 := m ((c : Thread nD τ).loc main_arg6)
abbrev Wm : Vec Ideal S512x1024 .f32 := m ((c : Thread nD τ).loc main_arg7)
abbrev Wo : Vec Ideal S1024x1024 .f32 := m ((c : Thread nD τ).loc main_arg8)
abbrev Gw : Vec Ideal S1024 .f32 := m ((c : Thread nD τ).loc main_arg9)

theorem V_v4 : V m c main_v4 = (Oa m c : S16384x512.Idx → EReal) := by
  unfold V; after_results; rfl
theorem V_v5 : V m c main_v5 = (Oc m c : S16384x512.Idx → EReal) := by
  unfold V; after_results; rfl
theorem V_v6 : V m c main_v6 = (Om m c : S16384x512.Idx → EReal) := by
  unfold V; after_results; rfl
theorem V_v0 : V m c main_v0 = (Wa m c : S512x1024.Idx → EReal) := by
  unfold V; after_results; rfl
theorem V_v1 : V m c main_v1 = (Wc m c : S512x1024.Idx → EReal) := by
  unfold V; after_results; rfl
theorem V_v2 : V m c main_v2 = (Wm m c : S512x1024.Idx → EReal) := by
  unfold V; after_results; rfl
theorem V_v3 : V m c main_v3 = (Wo m c : S1024x1024.Idx → EReal) := by
  unfold V; after_results; rfl
theorem V_v8 : V m c main_v8 = shapeCast S1x1024 (Gw m c) Facts₀.shapeCasts_S1024_S1x1024 := by
  unfold V; after_results; rfl

theorem coord (t : Fin cfg0.N) : ((grid0.coords t) 0).val = t.val :=
  (Pipeline.Grid.coords_val t 0 (by decide : grid0.stride 0 = 1) rfl).trans
    (by rw [Nat.div_one]; exact Nat.mod_eq_of_lt (lt_of_lt_of_eq t.isLt N_0))

theorem idx0 (i : grid0.Coords) : (BitVec.ofNat 32 (i 0).val).toNat = (i 0).val := by
  have h : (i 0).val < 32 := (i 0).isLt
  rw [BitVec.toNat_ofNat, Nat.mod_eq_of_lt (by omega)]

/-- The reference's merged rows over the entry arguments. -/
abbrev want13 : S16384x1024.Idx → EReal := val_main_v16 (F := Ideal) (X m c) (Oa m c) (Oc m c) (Om m c) (Gt m c) (Wa m c) (Wc m c) (Wm m c) (Wo m c)
/-- The reference's normed rows over the entry arguments. -/
abbrev want14 : S16384x1024.Idx → EReal := val_main_v29 (F := Ideal) (X m c) (Oa m c) (Oc m c) (Om m c) (Gt m c) (Wa m c) (Wc m c) (Wm m c) (Wo m c) (Gw m c)

variable (t : Fin cfg0.N) (p : Fin 512) (r : Fin 16384) (hr : r.val = t.val * 512 + p.val)

theorem iblk5_at (k : Fin 512) (n : Fin 1024) : iblk m c 5 t (ix2 k n : S512x1024.Idx) = Wa m c (ix2 k n) :=
  (congrArg (V m c main_v0) (Rows.whole_emb (S := S512x1024) _ (hinb0_5 (grid0.coords t)) (ix2 k n))).trans (congrFun (V_v0 m c) _)
theorem iblk6_at (k : Fin 512) (n : Fin 1024) : iblk m c 6 t (ix2 k n : S512x1024.Idx) = Wc m c (ix2 k n) :=
  (congrArg (V m c main_v1) (Rows.whole_emb (S := S512x1024) _ (hinb0_6 (grid0.coords t)) (ix2 k n))).trans (congrFun (V_v1 m c) _)
theorem iblk7_at (k : Fin 512) (n : Fin 1024) : iblk m c 7 t (ix2 k n : S512x1024.Idx) = Wm m c (ix2 k n) :=
  (congrArg (V m c main_v2) (Rows.whole_emb (S := S512x1024) _ (hinb0_7 (grid0.coords t)) (ix2 k n))).trans (congrFun (V_v2 m c) _)
theorem iblk8_at (k : Fin 1024) (n : Fin 1024) : iblk m c 8 t (ix2 k n : S1024x1024.Idx) = Wo m c (ix2 k n) :=
  (congrArg (V m c main_v3) (Rows.whole_emb (S := S1024x1024) _ (hinb0_8 (grid0.coords t)) (ix2 k n))).trans (congrFun (V_v3 m c) _)
theorem iblk9_at (k : Fin 1024) : iblk m c 9 t (ix2 (0 : Fin 1) k : S1x1024.Idx) = Gw m c (ix1 k) := by
  refine ((congrArg (V m c main_v8) (Rows.whole_emb (S := S1x1024) _ (hinb0_9 (grid0.coords t)) (ix2 (0 : Fin 1) k))).trans
    (congrFun (V_v8 m c) _)).trans ?_
  pointwise []

include hr

theorem iblk0_at (k : Fin 1024) : iblk m c 0 t (ix2 p k : S512x1024.Idx) = X m c (ix2 r k) :=
  (congrArg (V m c main_arg0) (Rows.rows_emb _ (hinb0_0 (grid0.coords t)) t.val ((idx0 _).trans (coord t)) rfl p k r hr)).trans
    (congrFun (V_main_arg0 m c) _)
theorem iblk1_at (k : Fin 512) : iblk m c 1 t (ix2 p k : S512x512.Idx) = Oa m c (ix2 r k) :=
  (congrArg (V m c main_v4) (Rows.rows_emb _ (hinb0_1 (grid0.coords t)) t.val ((idx0 _).trans (coord t)) rfl p k r hr)).trans
    (congrFun (V_v4 m c) _)
theorem iblk2_at (k : Fin 512) : iblk m c 2 t (ix2 p k : S512x512.Idx) = Oc m c (ix2 r k) :=
  (congrArg (V m c main_v5) (Rows.rows_emb _ (hinb0_2 (grid0.coords t)) t.val ((idx0 _).trans (coord t)) rfl p k r hr)).trans
    (congrFun (V_v5 m c) _)
theorem iblk3_at (k : Fin 512) : iblk m c 3 t (ix2 p k : S512x512.Idx) = Om m c (ix2 r k) :=
  (congrArg (V m c main_v6) (Rows.rows_emb _ (hinb0_3 (grid0.coords t)) t.val ((idx0 _).trans (coord t)) rfl p k r hr)).trans
    (congrFun (V_v6 m c) _)
theorem iblk4_at (k : Fin 3072) : iblk m c 4 t (ix2 p k : S512x3072.Idx) = Gt m c (ix2 r k) :=
  (congrArg (V m c main_arg4) (Rows.rows_emb _ (hinb0_4 (grid0.coords t)) t.val ((idx0 _).trans (coord t)) rfl p k r hr)).trans
    (congrFun (V_main_arg4 m c) _)

/-! ## What a block of rows ends holding -/

theorem at13 (n : Fin 1024) : G13 (iblk m c 0 t) (iblk m c 1 t) (iblk m c 2 t) (iblk m c 3 t) (iblk m c 4 t) (iblk m c 5 t) (iblk m c 6 t) (iblk m c 7 t) (iblk m c 8 t) (ix2 p n) = want13 m c (ix2 r n) :=
  (MergeSpec.hidden_congr (iblk0_at m c t p r hr n)
    (fun q j => match q with
      | ⟨0, _⟩ => iblk4_at m c t p r hr _
      | ⟨1, _⟩ => iblk4_at m c t p r hr _
      | ⟨2, _⟩ => iblk4_at m c t p r hr _)
    (fun k => iblk1_at m c t p r hr k) (fun k => iblk2_at m c t p r hr k) (fun k => iblk3_at m c t p r hr k)
    (fun k j => iblk5_at m c t k j) (fun k j => iblk6_at m c t k j) (fun k j => iblk7_at m c t k j) (fun j => iblk8_at m c t j n)).trans
    (Cert.Reference5Ideal.Merge.hidden_apply _ _ _ _ _ _ _ _ _ r n).symm

theorem at14 (n : Fin 1024) : G14 (iblk m c 0 t) (iblk m c 1 t) (iblk m c 2 t) (iblk m c 3 t) (iblk m c 4 t) (iblk m c 5 t) (iblk m c 6 t) (iblk m c 7 t) (iblk m c 8 t) (iblk m c 9 t) (ix2 p n) = want14 m c (ix2 r n) :=
  (Norm.norm_congr (fun k => at13 m c t p r hr k) (fun k => iblk9_at m c t k) n).trans
    (Cert.Reference5Ideal.Merge.normed_apply _ _ _ _ _ _ _ _ _ _ r n).symm

/-! ## Where the blocks lie -/

theorem emb13 (n : Fin 1024) : ((cfg0.win 13).blk t).view.emb (ix2 p n : S512x1024.Idx) = ix2 r n :=
  Rows.rows_emb _ (hinb0_13 (grid0.coords t)) t.val ((idx0 _).trans (coord t)) rfl p n r hr
theorem mem13 (n : Fin 1024) : (ix2 r n : S16384x1024.Idx) ∈ ((cfg0.win 13).blk t).view.set := by
  have h := View.emb_mem_set ((cfg0.win 13).blk t).view (ix2 p n : S512x1024.Idx)
  exact emb13 t p r hr n ▸ h
theorem emb14 (n : Fin 1024) : ((cfg0.win 14).blk t).view.emb (ix2 p n : S512x1024.Idx) = ix2 r n :=
  Rows.rows_emb _ (hinb0_14 (grid0.coords t)) t.val ((idx0 _).trans (coord t)) rfl p n r hr
theorem mem14 (n : Fin 1024) : (ix2 r n : S16384x1024.Idx) ∈ ((cfg0.win 14).blk t).view.set := by
  have h := View.emb_mem_set ((cfg0.win 14).blk t).view (ix2 p n : S512x1024.Idx)
  exact emb14 t p r hr n ▸ h

omit t p r hr in
theorem row_of_point (t : Fin cfg0.N) (p : Fin 512) : ∃ r : Fin 16384, r.val = t.val * 512 + p.val := by
  have h : t.val < 32 := t.isLt
  exact ⟨⟨t.val * 512 + p.val, by omega⟩, rfl⟩

omit t p r hr in
theorem point_of_row (r : Fin 16384) : ∃ (t : Fin cfg0.N) (p : Fin 512), r.val = t.val * 512 + p.val :=
  ⟨(⟨r.val / 512, by omega⟩ : Fin 32), ⟨r.val % 512, by omega⟩, by show r.val = r.val / 512 * 512 + r.val % 512; omega⟩

omit t p r hr in
/-- The merged rows end holding the reference's. -/
theorem final13 : (dats m 0 c).arrAt 13 cfg0.N = want13 m c :=
  (dats m 0 c).arrAt_eq_of_cover 13 (want13 m c)
    (fun t _ => by
      by_cases h0 : t.val % 32 = 0
      · refine (Value.flushed13_A m c t h0).trans ?_
        have key : ∀ j : S512x1024.Idx, out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0)
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
            = want13 m c (((cfg0.win 13).blk t).view.emb j) := fun j => by
          obtain ⟨r, hr⟩ := row_of_point t (j 0)
          rw [out13_A, eq_ix2 j]
          exact (at13 m c t (j 0) r hr (j 1)).trans (congrArg (want13 m c) (emb13 t (j 0) r hr (j 1))).symm
        exact funext fun j => key j
      · refine (Value.flushed13_B m c t h0).trans ?_
        have key : ∀ j : S512x1024.Idx, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h))
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2 j
            = want13 m c (((cfg0.win 13).blk t).view.emb j) := fun j => by
          obtain ⟨r, hr⟩ := row_of_point t (j 0)
          rw [out13_B, eq_ix2 j]
          exact (at13 m c t (j 0) r hr (j 1)).trans (congrArg (want13 m c) (emb13 t (j 0) r hr (j 1))).symm
        exact funext fun j => key j)
    (fun i => by
      have key : ∀ i : S16384x1024.Idx, ∃ t : Fin cfg0.N, (cfg0.win 13).flush t = true ∧ i ∈ ((cfg0.win 13).blk t).view.set := fun i => by
        obtain ⟨t, p, hr⟩ := point_of_row (i 0)
        rw [eq_ix2 i]
        exact ⟨t, flush0_13 t, mem13 t p (i 0) hr (i 1)⟩
      exact key i)

omit t p r hr in
/-- The normed rows end holding the reference's. -/
theorem final14 : (dats m 0 c).arrAt 14 cfg0.N = want14 m c :=
  (dats m 0 c).arrAt_eq_of_cover 14 (want14 m c)
    (fun t _ => by
      by_cases h0 : t.val % 32 = 0
      · refine (Value.flushed14_A m c t h0).trans ?_
        have key : ∀ j : S512x1024.Idx, out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0)
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
            = want14 m c (((cfg0.win 14).blk t).view.emb j) := fun j => by
          obtain ⟨r, hr⟩ := row_of_point t (j 0)
          rw [out14_A, eq_ix2 j]
          exact (at14 m c t (j 0) r hr (j 1)).trans (congrArg (want14 m c) (emb14 t (j 0) r hr (j 1))).symm
        exact funext fun j => key j
      · refine (Value.flushed14_B m c t h0).trans ?_
        have key : ∀ j : S512x1024.Idx, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h))
            (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2 j
            = want14 m c (((cfg0.win 14).blk t).view.emb j) := fun j => by
          obtain ⟨r, hr⟩ := row_of_point t (j 0)
          rw [out14_B, eq_ix2 j]
          exact (at14 m c t (j 0) r hr (j 1)).trans (congrArg (want14 m c) (emb14 t (j 0) r hr (j 1))).symm
        exact funext fun j => key j)
    (fun i => by
      have key : ∀ i : S16384x1024.Idx, ∃ t : Fin cfg0.N, (cfg0.win 14).flush t = true ∧ i ∈ ((cfg0.win 14).blk t).view.set := fun i => by
        obtain ⟨t, p, hr⟩ := point_of_row (i 0)
        rw [eq_ix2 i]
        exact ⟨t, flush0_14 t, mem14 t p (i 0) hr (i 1)⟩
      exact key i)

end Cert.Kernel5Ideal.Merge

namespace Cert.Proof

open Idealize.ShloMosaic Idealize.SL.Sem

theorem merge_frame_reference : Cert.quiescent_Reference5Ideal := fun m g _ =>
  (θ_run Cert.Reference5Ideal.defs _ _).mono (fun r h => ⟨fun c => (h c).2.2, sem_eq_zero_of_no_sems rfl _⟩)
    (Cert.Reference5Ideal.Value.run m g)

/-- The merge is the reference's. -/
theorem merge : Cert.algebraic_Kernel5Ideal_Reference5Ideal := fun m g m' g' _ hag => by
  refine ⟨fun c => Cert.Kernel5Ideal.Merge.want13 m c, fun c => Cert.Kernel5Ideal.Merge.want14 m c, ?_, ?_⟩
  · exact (θ_run Cert.Kernel5Ideal.defs _ _).mono
      (fun r h c => by
        obtain ⟨h13, h14, _, _, _, _, ha⟩ := h c
        exact ⟨h13.trans (Cert.Kernel5Ideal.Merge.final13 m c), h14.trans (Cert.Kernel5Ideal.Merge.final14 m c), ha⟩)
      (Cert.Kernel5Ideal.Value.run_blocks m g)
  · refine (θ_run Cert.Reference5Ideal.defs _ _).mono (fun r h c => ?_) (Cert.Reference5Ideal.Value.run m' g')
    obtain ⟨e0, e1, e2, e3, e4, e5, e6, e7, e8, e9, e10, e11⟩ := hag c
    obtain ⟨h0, h1, ha⟩ := h c
    refine ⟨h0.trans ?_, h1.trans ?_, ha⟩
    · rw [e0, e1, e2, e3, e4, e5, e6, e7, e8]; rfl
    · unfold Cert.Reference5Ideal.Value.res_main_v29; rw [e0, e1, e2, e3, e4, e5, e6, e7, e8, e9]; rfl

end Cert.Proof
-- ==== Proof.lean ====
module

public import proofs.«01_k».proof.Defs
public import proofs.«01_k».proof.Proof.MoeClaims
public import proofs.«01_k».proof.Proof.MoeBits
public import proofs.«01_k».proof.Proof.InProj
public import proofs.«01_k».proof.Proof.MemKv
public import proofs.«01_k».proof.Proof.Combine
public import proofs.«01_k».proof.Proof.Merge
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_experts_exist
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_experts_exist.Gen.facts,
    frame_bits, frame_ideal, frame_reference, frame_reference_pre,
    fun m ρ _ => Cert.Kernel2.Gen.frame m ρ, fun m ρ _ => Cert.Kernel2Ideal.Gen.frame m ρ, inproj_frame_reference,
    fun m ρ _ => Cert.Kernel3.Gen.frame m ρ, fun m ρ _ => Cert.Kernel3Ideal.Gen.frame m ρ, kv_frame_reference,
    fun m ρ _ => Cert.Kernel4.Gen.frame m ρ, fun m ρ _ => Cert.Kernel4Ideal.Gen.frame m ρ, comb_frame_reference,
    fun m ρ _ => Cert.Kernel5.Gen.frame m ρ, fun m ρ _ => Cert.Kernel5Ideal.Gen.frame m ρ, merge_frame_reference,
    trivial, experts, trivial, in_projection, trivial, memory_kv, trivial, combine,
    trivial, merge⟩

end Cert.Proof

end
